-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69_0) = v0 c
          ∧ r.2.mem ((c.tc : Thread Cert.ReferenceIdeal.nD Cert.ReferenceIdeal.τ).loc Cert.ReferenceIdeal.main_v69_1) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x384x1536 : Shape := ⟨3, ![3, 384, 1536]⟩
abbrev S8960x768 : Shape := ⟨2, ![8960, 768]⟩
abbrev S8960x96 : Shape := ⟨2, ![8960, 96]⟩
abbrev S_ : Shape := ⟨0, ![]⟩

class Facts : Prop where
  bitsLt_bf16_f32 : FTy.bits .bf16 < FTy.bits .f32
  bcast_S_S3x384x1536 : S_.BroadcastsInDim S3x384x1536 (![] : Fin 0 → Fin S3x384x1536.rank)

variable [Facts]

def fn {F : FTy → Type} [FloatOps F] (main_arg0 : FVec F S3x384x1536 .bf16) (main_arg1 : IVec S8960x768 8) (main_arg2 : FVec F S8960x96 .fp8e4m3) (main_arg3 : FVec F S_ .f32) : IVec S3x384x1536 1 :=
  let main_v0 : FVec F S3x384x1536 .f32 := (extf .f32 · bitsLt_bf16_f32) main_arg0
  let main_v1 : FVec F S3x384x1536 .f32 := Host.absf main_v0
  let main_cst : FVec F S_ .f32 := constant S_ .f32 0x7F7F0000#32
  let main_v2 : FVec F S3x384x1536 .f32 := broadcastInDim S3x384x1536 ![] bcast_S_S3x384x1536 main_cst
  let main_v3 : IVec S3x384x1536 1 := cmpf .ole main_v1 main_v2
  main_v3
-- ==== Kernel.lean ====
abbrev S3x384x1536 : Shape := ⟨3, ![3, 384, 1536]⟩
abbrev S8960x768 : Shape := ⟨2, ![8960, 768]⟩
abbrev S8960x96 : Shape := ⟨2, ![8960, 96]⟩
abbrev S_ : Shape := ⟨0, ![]⟩
abbrev S1 : Shape := ⟨1, ![1]⟩
abbrev S1152x1536 : Shape := ⟨2, ![1152, 1536]⟩
abbrev S1152x8960 : Shape := ⟨2, ![1152, 8960]⟩
abbrev S1152x48 : Shape := ⟨2, ![1152, 48]⟩
abbrev S1792x768 : Shape := ⟨2, ![1792, 768]⟩
abbrev S1792x96 : Shape := ⟨2, ![1792, 96]⟩
abbrev S1152x1792 : Shape := ⟨2, ![1152, 1792]⟩
abbrev S1792x1536 : Shape := ⟨2, ![1792, 1536]⟩
abbrev S32x128 : Shape := ⟨2, ![32, 128]⟩
abbrev S32x128x1 : Shape := ⟨3, ![32, 128, 1]⟩
abbrev S32x48 : Shape := ⟨2, ![32, 48]⟩
abbrev S256x128 : Shape := ⟨2, ![256, 128]⟩
abbrev S256x96 : Shape := ⟨2, ![256, 96]⟩
abbrev S256x32 : Shape := ⟨2, ![256, 32]⟩
abbrev S64x128 : Shape := ⟨2, ![64, 128]⟩
abbrev S256x128x1 : Shape := ⟨3, ![256, 128, 1]⟩
abbrev S256x1536 : Shape := ⟨2, ![256, 1536]⟩
abbrev S1152x256 : Shape := ⟨2, ![1152, 256]⟩

abbrev nBuf : Space → Nat
  | .hbm => 9
  | .vmem => 11
  | .smem => 1
  | _ => 0

abbrev bufTy : (tb : Table) → Fin (tcTables nBuf tb) → BufTy
  | .hbm, ⟨0, _⟩ => ⟨S3x384x1536, .bf16⟩
  | .hbm, ⟨1, _⟩ => ⟨S8960x768, .i8⟩
  | .hbm, ⟨2, _⟩ => ⟨S8960x96, .fp8e4m3⟩
  | .hbm, ⟨3, _⟩ => ⟨S_, .f32⟩
  | .hbm, ⟨4, _⟩ => ⟨S1, .f32⟩
  | .hbm, ⟨5, _⟩ => ⟨S1152x1536, .bf16⟩
  | .hbm, ⟨6, _⟩ => ⟨S1152x8960, .bf16⟩
  | .hbm, ⟨7, _⟩ => ⟨S1152x1536, .fp8e4m3⟩
  | .hbm, ⟨8, _⟩ => ⟨S1152x48, .f32⟩
  | .local _ .vmem, ⟨0, _⟩ => ⟨S1152x1536, .bf16⟩
  | .local _ .vmem, ⟨1, _⟩ => ⟨S1792x768, .i8⟩
  | .local _ .vmem, ⟨2, _⟩ => ⟨S1792x768, .i8⟩
  | .local _ .vmem, ⟨3, _⟩ => ⟨S1792x96, .fp8e4m3⟩
  | .local _ .vmem, ⟨4, _⟩ => ⟨S1792x96, .fp8e4m3⟩
  | .local _ .vmem, ⟨5, _⟩ => ⟨S1152x1792, .bf16⟩
  | .local _ .vmem, ⟨6, _⟩ => ⟨S1152x1792, .bf16⟩
  | .local _ .vmem, ⟨7, _⟩ => ⟨S1152x1536, .fp8e4m3⟩
  | .local _ .vmem, ⟨8, _⟩ => ⟨S1152x48, .f32⟩
  | .local _ .vmem, ⟨9, _⟩ => ⟨S1152x1536, .bf16⟩
  | .local _ .vmem, ⟨10, _⟩ => ⟨S1792x1536, .bf16⟩
  | .local _ .smem, ⟨0, _⟩ => ⟨S1, .f32⟩
  | _, _ => ⟨S3x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_801 : BitVec 32 := 0#32
  let c36_i32 : BitVec 32 := 36#32
  let v1978 : BitVec 32 := Scalar.addi c0_i32_801 c36_i32
  let c1_i32 : BitVec 32 := 1#32
  ⟨c0_i32_801, v1978, c1_i32⟩
def k0_mult1 (k0_t1 : Fin k0_t1_loop.trips) : BitVec 32 :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  v1979
def k0_off1 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2000 : Index := Scalar.indexCast v1980
  let c0_811 : Index := 0#32
  ![v2000.toNat, 0]
def k0_off2 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2004 : Index := Scalar.indexCast v1980
  let c128_812 : Index := 128#32
  ![v2004.toNat, 128]
def k0_off3 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2033 : Index := Scalar.indexCast v1980
  let c256_818 : Index := 256#32
  ![v2033.toNat, 256]
def k0_off4 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2037 : Index := Scalar.indexCast v1980
  let c384_819 : Index := 384#32
  ![v2037.toNat, 384]
def k0_off5 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2066 : Index := Scalar.indexCast v1980
  let c512_825 : Index := 512#32
  ![v2066.toNat, 512]
def k0_off6 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2070 : Index := Scalar.indexCast v1980
  let c640_826 : Index := 640#32
  ![v2070.toNat, 640]
def k0_off7 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2099 : Index := Scalar.indexCast v1980
  let c768_832 : Index := 768#32
  ![v2099.toNat, 768]
def k0_off8 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2103 : Index := Scalar.indexCast v1980
  let c896_833 : Index := 896#32
  ![v2103.toNat, 896]
def k0_off9 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2132 : Index := Scalar.indexCast v1980
  let c1024_839 : Index := 1024#32
  ![v2132.toNat, 1024]
def k0_off10 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2136 : Index := Scalar.indexCast v1980
  let c1152_840 : Index := 1152#32
  ![v2136.toNat, 1152]
def k0_off11 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2165 : Index := Scalar.indexCast v1980
  let c1280_846 : Index := 1280#32
  ![v2165.toNat, 1280]
def k0_off12 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2169 : Index := Scalar.indexCast v1980
  let c1408_847 : Index := 1408#32
  ![v2169.toNat, 1408]
def k0_off13 (k0_t1 : Fin k0_t1_loop.trips) : Fin 2 → Nat :=
  let c0_i32_801 : BitVec 32 := 0#32
  let c1_i32 : BitVec 32 := 1#32
  let arg10 : BitVec 32 := Scf.iv c0_i32_801 c1_i32 k0_t1
  let c32_i32_803 : BitVec 32 := 32#32
  let v1979 : BitVec 32 := Scalar.muli arg10 c32_i32_803
  let v1980 : BitVec 32 := v1979
  let v2423 : Index := Scalar.indexCast v1980
  let c0_907 : Index := 0#32
  ![v2423.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1152x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x384x1536 : Shape := ⟨3, ![3, 384, 1536]⟩
abbrev S8960x768 : Shape := ⟨2, ![8960, 768]⟩
abbrev S8960x96 : Shape := ⟨2, ![8960, 96]⟩
abbrev S_ : Shape := ⟨0, ![]⟩
abbrev S1152x48x32 : Shape := ⟨3, ![1152, 48, 32]⟩
abbrev S1152x48 : Shape := ⟨2, ![1152, 48]⟩
abbrev S1152x48x1 : Shape := ⟨3, ![1152, 48, 1]⟩
abbrev S1152x1536 : Shape := ⟨2, ![1152, 1536]⟩
abbrev S8960x768x1 : Shape := ⟨3, ![8960, 768, 1]⟩
abbrev S8960x768x2 : Shape := ⟨3, ![8960, 768, 2]⟩
abbrev S8960x1536 : Shape := ⟨2, ![8960, 1536]⟩
abbrev S1 : Shape := ⟨1, ![1]⟩
abbrev S8960x96x16 : Shape := ⟨3, ![8960, 96, 16]⟩
abbrev S1152x8960 : Shape := ⟨2, ![1152, 8960]⟩

abbrev nBuf : Space → Nat
  | .hbm => 120
  | .vmem => 6
  | .smem => 1
  | _ => 0

abbrev bufTy : (tb : Table) → Fin (tcTables nBuf tb) → BufTy
  | .hbm, ⟨0, _⟩ => ⟨S3x384x1536, .bf16⟩
  | .hbm, ⟨1, _⟩ => ⟨S8960x768, .i8⟩
  | .hbm, ⟨2, _⟩ => ⟨S8960x96, .fp8e4m3⟩
  | .hbm, ⟨3, _⟩ => ⟨S_, .f32⟩
  | .hbm, ⟨4, _⟩ => ⟨S3x384x1536, .f32⟩
  | .hbm, ⟨5, _⟩ => ⟨S1152x48x32, .f32⟩
  | .hbm, ⟨6, _⟩ => ⟨S1152x48x32, .f32⟩
  | .hbm, ⟨7, _⟩ => ⟨S_, .f32⟩
  | .hbm, ⟨8, _⟩ => ⟨S1152x48, .f32⟩
  | .hbm, ⟨9, _⟩ => ⟨S_, .f32⟩
  | .hbm, ⟨10, _⟩ => ⟨S1152x48, .f32⟩
  | .hbm, ⟨11, _⟩ => ⟨S1152x48, .f32⟩
  | .hbm, ⟨12, _⟩ => ⟨S_, .f32⟩
  | .hbm, ⟨13, _⟩ => ⟨S1152x48, .f32⟩
  | .hbm, ⟨14, _⟩ => ⟨S1152x48, .i1⟩
  | .hbm, ⟨15, _⟩ => ⟨S_, .f32⟩
  | .hbm, ⟨16, _⟩ => ⟨S_, .f32⟩
  | .hbm, ⟨17, _⟩ => ⟨S1152x48, .f32⟩
  | .hbm, ⟨18, _⟩ => ⟨S1152x48, .f32⟩
  | .hbm, ⟨19, _⟩ => ⟨S_, .f32⟩
  | .hbm, ⟨20, _⟩ => ⟨S1152x48, .f32⟩
  | .hbm, ⟨21, _⟩ => ⟨S1152x48, .f32⟩
  | .hbm, ⟨22, _⟩ => ⟨S_, .f32⟩
  | .hbm, ⟨23, _⟩ => ⟨S1152x48, .f32⟩
  | .hbm, ⟨24, _⟩ => ⟨S1152x48, .i1⟩
  | .hbm, ⟨25, _⟩ => ⟨S1152x48, .f32⟩
  | .hbm, ⟨26, _⟩ => ⟨S1152x48, .f32⟩
  | .hbm, ⟨27, _⟩ => ⟨S1152x48, .f32⟩
  | .hbm, ⟨28, _⟩ => ⟨S_, .f32⟩
  | .hbm, ⟨29, _⟩ => ⟨S1152x48, .f32⟩
  | .hbm, ⟨30, _⟩ => ⟨S1152x48, .f32⟩
  | .hbm, ⟨31, _⟩ => ⟨S_, .f32⟩
  | .hbm, ⟨32, _⟩ => ⟨S_, .f32⟩
  | .hbm, ⟨33, _⟩ => ⟨S1152x48, .f32⟩
  | .hbm, ⟨34, _⟩ => ⟨S1152x48, .f32⟩
  | .hbm, ⟨35, _⟩ => ⟨S1152x48, .f32⟩
  | .hbm, ⟨36, _⟩ => ⟨S1152x48, .f32⟩
  | .hbm, ⟨37, _⟩ => ⟨S1152x48, .f32⟩
  | .hbm, ⟨38, _⟩ => ⟨S1152x48, .f32⟩
  | .hbm, ⟨39, _⟩ => ⟨S1152x48, .f32⟩
  | .hbm, ⟨40, _⟩ => ⟨S1152x48x1, .f32⟩
  | .hbm, ⟨41, _⟩ => ⟨S1152x48x32, .f32⟩
  | .hbm, ⟨42, _⟩ => ⟨S1152x48x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1152x48x32, .f32⟩
  | .hbm, ⟨47, _⟩ => ⟨S1152x48x32, .f32⟩
  | .hbm, ⟨48, _⟩ => ⟨S_, .f32⟩
  | .hbm, ⟨49, _⟩ => ⟨S1152x48x32, .f32⟩
  | .hbm, ⟨50, _⟩ => ⟨S1152x48x32, .f32⟩
  | .hbm, ⟨51, _⟩ => ⟨S1152x1536, .f32⟩
  | .hbm, ⟨52, _⟩ => ⟨S1152x48, .bf16⟩
  | .hbm, ⟨53, _⟩ => ⟨S1152x48x32, .bf16⟩
  | .hbm, ⟨54, _⟩ => ⟨S1152x1536, .bf16⟩
  | .hbm, ⟨55, _⟩ => ⟨S8960x768, .i32⟩
  | .hbm, ⟨56, _⟩ => ⟨S_, .i32⟩
  | .hbm, ⟨57, _⟩ => ⟨S8960x768, .i32⟩
  | .hbm, ⟨58, _⟩ => ⟨S8960x768, .i32⟩
  | .hbm, ⟨59, _⟩ => ⟨S_, .i32⟩
  | .hbm, ⟨60, _⟩ => ⟨S8960x768, .i32⟩
  | .hbm, ⟨61, _⟩ => ⟨S8960x768, .i32⟩
  | .hbm, ⟨62, _⟩ => ⟨S8960x768x1, .i32⟩
  | .hbm, ⟨63, _⟩ => ⟨S8960x768x1, .i32⟩
  | .hbm, ⟨64, _⟩ => ⟨S8960x768x2, .i32⟩
  | .hbm, ⟨65, _⟩ => ⟨S8960x1536, .i32⟩
  | .hbm, ⟨66, _⟩ => ⟨S1, .f32⟩
  | .hbm, ⟨67, _⟩ => ⟨S_, .i32⟩
  | .hbm, ⟨68, _⟩ => ⟨S8960x1536, .i32⟩
  | .hbm, ⟨69, _⟩ => ⟨S8960x1536, .i32⟩
  | .hbm, ⟨70, _⟩ => ⟨S_, .i32⟩
  | .hbm, ⟨71, _⟩ => ⟨S8960x1536, .i32⟩
  | .hbm, ⟨72, _⟩ => ⟨S8960x1536, .i1⟩
  | .hbm, ⟨73, _⟩ => ⟨S_, .i32⟩
  | .hbm, ⟨74, _⟩ => ⟨S8960x1536, .i32⟩
  | .hbm, ⟨75, _⟩ => ⟨S8960x1536, .i32⟩
  | .hbm, ⟨76, _⟩ => ⟨S_, .i32⟩
  | .hbm, ⟨77, _⟩ => ⟨S8960x1536, .i32⟩
  | .hbm, ⟨78, _⟩ => ⟨S8960x1536, .i1⟩
  | .hbm, ⟨79, _⟩ => ⟨S_, .i32⟩
  | .hbm, ⟨80, _⟩ => ⟨S8960x1536, .i32⟩
  | .hbm, ⟨81, _⟩ => ⟨S8960x1536, .i32⟩
  | .hbm, ⟨82, _⟩ => ⟨S_, .i32⟩
  | .hbm, ⟨83, _⟩ => ⟨S8960x1536, .i32⟩
  | .hbm, ⟨84, _⟩ => ⟨S8960x1536, .i1⟩
  | .hbm, ⟨85, _⟩ => ⟨S_, .i32⟩
  | .hbm, ⟨86, _⟩ => ⟨S8960x1536, .i32⟩
  | .hbm, ⟨87, _⟩ => ⟨S8960x1536, .i32⟩
  | .hbm, ⟨88, _⟩ => ⟨S_, .i32⟩
  | .hbm, ⟨89, _⟩ => ⟨S8960x1536, .i32⟩
  | .hbm, ⟨90, _⟩ => ⟨S8960x1536, .i1⟩
  | .hbm, ⟨91, _⟩ => ⟨S_, .bf16⟩
  | .hbm, ⟨92, _⟩ => ⟨S_, .bf16⟩
  | .hbm, ⟨93, _⟩ => ⟨S8960x1536, .bf16⟩
  | .hbm, ⟨94, _⟩ => ⟨S8960x1536, .bf16⟩
  | .hbm, ⟨95, _⟩ => ⟨S8960x1536, .bf16⟩
  | .hbm, ⟨96, _⟩ => ⟨S_, .bf16⟩
  | .hbm, ⟨97, _⟩ => ⟨S_, .bf16⟩
  | .hbm, ⟨98, _⟩ => ⟨S8960x1536, .bf16⟩
  | .hbm, ⟨99, _⟩ => ⟨S8960x1536, .bf16⟩
  | .hbm, ⟨100, _⟩ => ⟨S8960x1536, .bf16⟩
  | .hbm, ⟨101, _⟩ => ⟨S8960x1536, .bf16⟩
  | .hbm, ⟨102, _⟩ => ⟨S_, .bf16⟩
  | .hbm, ⟨103, _⟩ => ⟨S_, .bf16⟩
  | .hbm, ⟨104, _⟩ => ⟨S8960x1536, .bf16⟩
  | .hbm, ⟨105, _⟩ => ⟨S8960x1536, .bf16⟩
  | .hbm, ⟨106, _⟩ => ⟨S8960x1536, .bf16⟩
  | .hbm, ⟨107, _⟩ => ⟨S_, .bf16⟩
  | .hbm, ⟨108, _⟩ => ⟨S_, .bf16⟩
  | .hbm, ⟨109, _⟩ => ⟨S8960x1536, .bf16⟩
  | .hbm, ⟨110, _⟩ => ⟨S8960x1536, .bf16⟩
  | .hbm, ⟨111, _⟩ => ⟨S8960x1536, .bf16⟩
  | .hbm, ⟨112, _⟩ => ⟨S8960x1536, .bf16⟩
  | .hbm, ⟨113, _⟩ => ⟨S8960x1536, .bf16⟩
  | .hbm, ⟨114, _⟩ => ⟨S8960x1536, .bf16⟩
  | .hbm, ⟨115, _⟩ => ⟨S8960x1536, .bf16⟩
  | .hbm, ⟨116, _⟩ => ⟨S8960x96x16, .fp8e4m3⟩
  | .hbm, ⟨117, _⟩ => ⟨S8960x1536, .fp8e4m3⟩
  | .hbm, ⟨118, _⟩ => ⟨S1152x8960, .bf16⟩
  | .hbm, ⟨119, _⟩ => ⟨S1152x1536, .fp8e4m3⟩
  | .local _ .vmem, ⟨0, _⟩ => ⟨S1152x1536, .f32⟩
  | .local _ .vmem, ⟨1, _⟩ => ⟨S1152x1536, .bf16⟩
  | .local _ .vmem, ⟨2, _⟩ => ⟨S8960x1536, .bf16⟩
  | .local _ .vmem, ⟨3, _⟩ => ⟨S8960x1536, .fp8e4m3⟩
  | .local _ .vmem, ⟨4, _⟩ => ⟨S1152x8960, .bf16⟩
  | .local _ .vmem, ⟨5, _⟩ => ⟨S1152x1536, .fp8e4m3⟩
  | .local _ .smem, ⟨0, _⟩ => ⟨S1, .f32⟩
  | _, _ => ⟨S3x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_c_15 : Ref sig .tc := ⟨.hbm, 82, rfl⟩
abbrev main_v52 : Ref sig .tc := ⟨.hbm, 83, rfl⟩
abbrev main_v53 : Ref sig .tc := ⟨.hbm, 84, rfl⟩
abbrev main_c_16 : Ref sig .tc := ⟨.hbm, 85, rfl⟩
abbrev main_v54 : Ref sig .tc := ⟨.hbm, 86, rfl⟩
abbrev main_v55 : Ref sig .tc := ⟨.hbm, 87, rfl⟩
abbrev main_c_17 : Ref sig .tc := ⟨.hbm, 88, rfl⟩
abbrev main_v56 : Ref sig .tc := ⟨.hbm, 89, rfl⟩
abbrev main_v57 : Ref sig .tc := ⟨.hbm, 90, rfl⟩
abbrev main_cst_18 : Ref sig .tc := ⟨.hbm, 91, rfl⟩
abbrev main_cst_19 : Ref sig .tc := ⟨.hbm, 92, rfl⟩
abbrev main_call3_v0 : Ref sig .tc := ⟨.hbm, 93, rfl⟩
abbrev main_call3_v1 : Ref sig .tc := ⟨.hbm, 94, rfl⟩
abbrev main_v58 : Ref sig .tc := ⟨.hbm, 95, rfl⟩
abbrev main_cst_20 : Ref sig .tc := ⟨.hbm, 96, rfl⟩
abbrev main_cst_21 : Ref sig .tc := ⟨.hbm, 97, rfl⟩
abbrev main_call4_v0 : Ref sig .tc := ⟨.hbm, 98, rfl⟩
abbrev main_call4_v1 : Ref sig .tc := ⟨.hbm, 99, rfl⟩
abbrev main_v59 : Ref sig .tc := ⟨.hbm, 100, rfl⟩
abbrev main_v60 : Ref sig .tc := ⟨.hbm, 101, rfl⟩
abbrev main_cst_22 : Ref sig .tc := ⟨.hbm, 102, rfl⟩
abbrev main_cst_23 : Ref sig .tc := ⟨.hbm, 103, rfl⟩
abbrev main_call6_v0 : Ref sig .tc := ⟨.hbm, 104, rfl⟩
abbrev main_call6_v1 : Ref sig .tc := ⟨.hbm, 105, rfl⟩
abbrev main_v61 : Ref sig .tc := ⟨.hbm, 106, rfl⟩
abbrev main_cst_24 : Ref sig .tc := ⟨.hbm, 107, rfl⟩
abbrev main_cst_25 : Ref sig .tc := ⟨.hbm, 108, rfl⟩
abbrev main_call7_v0 : Ref sig .tc := ⟨.hbm, 109, rfl⟩
abbrev main_call7_v1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69_0 : Ref sig .tc := ⟨.hbm, 118, rfl⟩
abbrev main_v69_1 : Ref sig .tc := ⟨.hbm, 119, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x8960 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.Runs.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

/-! What the two runs of the kernel's body share at its own number formats: the branch condition of the
    body in closed form, the staging and scratch buffers, and the frame claim's post. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x96 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1152x1792 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x48 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1152x1536 .bf16 := Memref.whole cc0_scratch0
abbrev scM0_1 : Memref sig .tc .vmem S1792x1536 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelFrame.RunA.lean ====
module

public import proofs.«01_k».proof.Proof.KernelFrame.Runs

@[expose] public section

/-! The body's run at grid point 0, where the activations are quantised; nothing it leaves is named. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1888000 in
/-- The body's triple IN CASE A (`scf.if` 0 taken: points 0): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (hc0 : cond0_0 i)
    (x0 : Vec F S1 .f32) (x1 : Vec F S1152x1536 .bf16) (x2 : Vec F S1792x768 .i8) (x3 : Vec F S1792x96 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
    intro E K
    simp only [cc0_nvfp4_matmul_eq_skeleton]; unfold cc0_nvfp4_matmul_skel
    simp only [k0_part69_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.RunB.lean ====
module

public import proofs.«01_k».proof.Proof.KernelFrame.RunA

@[expose] public section

/-! The body's run at the later grid points; nothing it leaves is named. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1772000 in
/-- The body's triple IN CASE B (`scf.if` 0 not taken: points 1, 2, 3, 4): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (hc0 : ¬cond0_0 i)
    (x0 : Vec F S1 .f32) (x1 : Vec F S1152x1536 .bf16) (x2 : Vec F S1792x768 .i8) (x3 : Vec F S1792x96 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
    intro E K
    simp only [cc0_nvfp4_matmul_eq_skeleton]; unfold cc0_nvfp4_matmul_skel
    simp only [k0_part69_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
module

public import proofs.«01_k».proof.Proof.KernelFrame.RunB
public import Idealize.ShloMosaic.Lib.Claim

@[expose] public section

/-! The frame of the kernel at its own number formats: it terminates and leaves its arguments unchanged. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 5 := lt_of_lt_of_eq t.isLt (show cfg0.N = 5 from N_0)
  by_cases h0 : t.val % 5 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  rframe_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Ideal.Runs.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

/-! What the two runs of the kernel's body share over the extended reals: the branch condition of the body in
    closed form, and the staging and scratch buffers. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x96 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1152x1792 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x48 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1152x1536 .bf16 := Memref.whole cc0_scratch0
abbrev scM0_1 : Memref sig .tc .vmem S1792x1536 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Ideal.RunA.lean ====
module

public import proofs.«01_k».proof.Proof.Ideal.Runs

@[expose] public section

/-! The body's run at grid point 0, where the activations are quantised; nothing it leaves is named. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1888000 in
/-- The body's triple IN CASE A (`scf.if` 0 taken: points 0): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem runA (c : Dev nD) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (hc0 : cond0_0 i)
    (x0 : Vec F S1 .f32) (x1 : Vec F S1152x1536 .bf16) (x2 : Vec F S1792x768 .i8) (x3 : Vec F S1792x96 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
    intro E K
    simp only [cc0_nvfp4_matmul_eq_skeleton]; unfold cc0_nvfp4_matmul_skel
    simp only [k0_part69_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.KernelIdeal.Gen

end
-- ==== Proof.Ideal.RunB.lean ====
module

public import proofs.«01_k».proof.Proof.Ideal.RunA

@[expose] public section

/-! The body's run at the later grid points; nothing it leaves is named. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1772000 in
/-- The body's triple IN CASE B (`scf.if` 0 not taken: points 1, 2, 3, 4): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem runB (c : Dev nD) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (hc0 : ¬cond0_0 i)
    (x0 : Vec F S1 .f32) (x1 : Vec F S1152x1536 .bf16) (x2 : Vec F S1792x768 .i8) (x3 : Vec F S1792x96 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
    intro E K
    simp only [cc0_nvfp4_matmul_eq_skeleton]; unfold cc0_nvfp4_matmul_skel
    simp only [k0_part69_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.KernelIdeal.Gen

end
-- ==== Proof.Ideal.Decode.lean ====
module

public import proofs.«01_k».proof.Proof.Ideal.RunB
public import Idealize.ShloMosaic.Lib.Pointwise
public import Idealize.ShloMosaic.Lib.BitcastFour
public import Idealize.ShloMosaic.Lib.Pipeline.ReadBack
public import Idealize.ShloMosaic.Lib.Pipeline.ValueKit.Geometry
public import Idealize.ShloMosaic.Lib.Pipeline.ValueKit.Tiles

@[expose] public section

/-! The weight decode of the kernel's body: what each stored block of decoded weights holds, entry by entry. -/

set_option maxRecDepth 16384

noncomputable section

namespace Cert.KernelIdeal.Gen

open Idealize.ShloMosaic Idealize.ShloMosaic.TcCoe Idealize.ShloMosaic.Tactic

/-! ## One block of decoded weights, spelled once -/

/-- The index vector that reads scale `base + lane / 8` at each lane. -/
def wIdx (b : BitVec 32) : IVec S256x128 32 :=
  addi (broadcast S256x128 b) (shrsi (iota .tc S256x128 32 [1] iota_S256x128_d1_w32) (broadcast S256x128 3#32))

/-- The block scales of a chunk of weight rows spread over a register's lanes, times 64. -/
def wScale (s : Vec Ideal S256x96 .fp8e4m3) (b : BitVec 32) : FVec Ideal S256x128 .bf16 :=
  mulf (truncf .bf16 (dynamicGather 1 (k0_pay151 s) (shapeCast S256x128 (shapeCast S256x128x1
    (select (cmpi .slt (wIdx b) (broadcast S256x128 0#32)) (addi (wIdx b) (broadcast S256x128 128#32)) (wIdx b))
    shapeCasts_S256x128_S256x128x1) shapeCasts_S256x128x1_S256x128)) bitsLt_bf16_f32)
    (broadcast S256x128 (Scalar.ofBits .bf16 0x4280#16))

/-- Four packed rows as words. -/
def wWord (w : Vec Ideal S256x128 .i8) : IVec S64x128 32 := bitcast S64x128 32 w bitcasts_S256x128_w8_S64x128_w32

/-- The low nibbles of four packed rows as fp8 patterns. -/
def wLo (w : Vec Ideal S256x128 .i8) : IVec S64x128 32 :=
  ori (shli (andi (wWord w) (broadcast S64x128 134744072#32)) (broadcast S64x128 4#32))
    (shli (andi (wWord w) (broadcast S64x128 117901063#32)) (broadcast S64x128 2#32))

/-- The high nibbles of four packed rows as fp8 patterns. -/
def wHi (w : Vec Ideal S256x128 .i8) : IVec S64x128 32 :=
  ori (andi (wWord w) (broadcast S64x128 2155905152#32))
    (shrui (andi (wWord w) (broadcast S64x128 1886417008#32)) (broadcast S64x128 2#32))

/-- Patterns read as fp8 values, times scales. -/
def wPiece (p : IVec S64x128 32) (s : FVec Ideal S256x128 .bf16) : FVec Ideal S256x128 .bf16 :=
  shapeCast S256x128 (mulf (extf .bf16 (bitcastToFloat .fp8e4m3 (bitcast S256x128 8 p bitcasts_S64x128_w32_S256x128_w8))
    bitsLt_fp8e4m3_bf16) s) shapeCasts_S256x128_S256x128

/-! ## The fp8 pattern of a nibble -/

/-- The fp8 pattern made of a byte's low nibble. -/
def patLo (b : BitVec 8) : BitVec 8 := ((b &&& 8#8) <<< 4) ||| ((b &&& 7#8) <<< 2)

/-- The fp8 pattern made of a byte's high nibble. -/
def patHi (b : BitVec 8) : BitVec 8 := (b &&& 128#8) ||| ((b &&& 112#8) >>> 2)

/-- The decoded weight at row `r`, column `c` of the kernel's column order: column `c < 768` is the low nibble of
    byte `c`, column `768 + c` its high nibble. -/
def wdG (w : Vec Ideal S1792x768 .i8) (s : Vec Ideal S1792x96 .fp8e4m3) : Vec Ideal S1792x1536 .bf16 := fun y =>
  let c := (y 1).val % 768
  (Ideal.ofBits .fp8e4m3 (if (y 1).val < 768 then patLo (w (ix2 (y 0) ⟨c, Nat.mod_lt _ (by decide)⟩))
      else patHi (w (ix2 (y 0) ⟨c, Nat.mod_lt _ (by decide)⟩)))
    : EReal) * (s (ix2 (y 0) ⟨c / 8, by have := Nat.mod_lt (y 1).val (show 0 < 768 by decide); show _ < 96; omega⟩) * Ideal.ofBits .bf16 0x4280#16)

/-! ## Words and their bytes -/

/-- A byte of a word vector read as bytes. -/
theorem bitcast_32_8_ix2 (p : IVec S64x128 32) (a : Fin 256) (l : Fin 128) (q : Nat) (hq : q < 8) :
    (bitcast S256x128 8 p bitcasts_S64x128_w32_S256x128_w8 (ix2 a l)).getLsbD q
      = (p (ix2 ⟨a.val / 4, by omega⟩ l)).getLsbD (8 * (a.val % 4) + q) := by
  rw [bitcast_getLsbD p _ _ q hq (by decide)]
  have e : (Shape.row (s := S256x128) (ix2 a l)) = a.val := rfl
  have h1 : (a.val * 8 + q) / 32 = a.val / 4 := by omega
  have h2 : (a.val * 8 + q) % 32 = 8 * (a.val % 4) + q := by omega
  simp only [e, h2]
  congr 2
  funext c
  match c with
  | ⟨0, _⟩ => exact Fin.ext ((Shape.Bitcasts.srcIdx_row _ _ _ _ ⟨0, Nat.zero_lt_two⟩ rfl).trans h1)
  | ⟨1, _⟩ => exact Fin.ext (Shape.Bitcasts.srcIdx_other _ _ _ _ ⟨1, Nat.one_lt_two⟩ (by show ¬ 1 + 2 = 2; omega))

/-- A word of four packed rows holds each row's byte in its place. -/
theorem wWord_bit (w : Vec Ideal S256x128 .i8) (a : Fin 256) (l : Fin 128) (q : Nat) (hq : q < 8) :
    (wWord w (ix2 ⟨a.val / 4, by omega⟩ l)).getLsbD (8 * (a.val % 4) + q) = BitVec.getLsbD (w := 8) (w (ix2 a l)) q := by
  unfold wWord
  refine (bitcast_8_32_getLsbD_ix2 w bitcasts_S256x128_w8_S64x128_w32 ⟨a.val / 4, by omega⟩ l (8 * (a.val % 4) + q) (by omega) a
    (by show a.val = 4 * (a.val / 4) + _; omega)).trans ?_
  congr 1; omega

/-- The word arithmetic of the low nibbles, byte by byte. -/
theorem lo_bits (W : BitVec 32) (b : BitVec 8) (β : Nat) (hβ : β < 4) (h : ∀ q < 8, W.getLsbD (8 * β + q) = b.getLsbD q) (q : Nat) (hq : q < 8) :
    (IntOp.ori (IntOp.shli ArithUnit.vector (IntOp.andi W 134744072#32) 4#32)
          (IntOp.shli ArithUnit.vector (IntOp.andi W 117901063#32) 2#32)).getLsbD (8 * β + q)
      = (patLo b).getLsbD q := by
  have h0 := h 0 (by decide); have h1 := h 1 (by decide); have h2 := h 2 (by decide); have h3 := h 3 (by decide)
  unfold patLo
  have es4 : IntOp.shli ArithUnit.vector (IntOp.andi W 134744072#32) 4#32 = (W &&& 134744072#32) <<< 4 := rfl
  have es2 : IntOp.shli ArithUnit.vector (IntOp.andi W 117901063#32) 2#32 = (W &&& 117901063#32) <<< 2 := rfl
  rw [es4, es2]
  interval_cases β <;> interval_cases q <;>
    simp [IntOp.ori, BitVec.getLsbD_or, BitVec.getLsbD_and, BitVec.getLsbD_shiftLeft] at h0 h1 h2 h3 ⊢ <;> simp [h0, h1, h2, h3]

/-- The word arithmetic of the high nibbles, byte by byte. -/
theorem hi_bits (W : BitVec 32) (b : BitVec 8) (β : Nat) (hβ : β < 4) (h : ∀ q < 8, W.getLsbD (8 * β + q) = b.getLsbD q) (q : Nat) (hq : q < 8) :
    (IntOp.ori (IntOp.andi W 2155905152#32)
          (IntOp.shrui ArithUnit.vector (IntOp.andi W 1886417008#32) 2#32)).getLsbD (8 * β + q)
      = (patHi b).getLsbD q := by
  have h0 := h 4 (by decide); have h1 := h 5 (by decide); have h2 := h 6 (by decide); have h3 := h 7 (by decide)
  unfold patHi
  have es2 : IntOp.shrui ArithUnit.vector (IntOp.andi W 1886417008#32) 2#32 = (W &&& 1886417008#32) >>> 2 := rfl
  rw [es2]
  interval_cases β <;> interval_cases q <;>
    simp [IntOp.ori, IntOp.andi, BitVec.getLsbD_or, BitVec.getLsbD_and, BitVec.getLsbD_ushiftRight] at h0 h1 h2 h3 ⊢ <;> simp [h0, h1, h2, h3]

/-- The low nibbles' patterns, byte by byte. -/
theorem wLo_byte (w : Vec Ideal S256x128 .i8) (a : Fin 256) (l : Fin 128) :
    bitcast S256x128 8 (wLo w) bitcasts_S64x128_w32_S256x128_w8 (ix2 a l) = patLo (w (ix2 a l)) := by
  refine BitVec.eq_of_getLsbD_eq fun q hq => ?_
  rw [bitcast_32_8_ix2 _ a l q hq]
  unfold wLo
  pointwise
  exact lo_bits _ _ _ (Nat.mod_lt _ (by decide)) (fun q hq => wWord_bit w a l q hq) q hq

/-- The high nibbles' patterns, byte by byte. -/
theorem wHi_byte (w : Vec Ideal S256x128 .i8) (a : Fin 256) (l : Fin 128) :
    bitcast S256x128 8 (wHi w) bitcasts_S64x128_w32_S256x128_w8 (ix2 a l) = patHi (w (ix2 a l)) := by
  refine BitVec.eq_of_getLsbD_eq fun q hq => ?_
  rw [bitcast_32_8_ix2 _ a l q hq]
  unfold wHi
  pointwise
  exact hi_bits _ _ _ (Nat.mod_lt _ (by decide)) (fun q hq => wWord_bit w a l q hq) q hq

/-- The lane that a scale's index vector names. -/
theorem wIdx_lane : ∀ (j : Fin 6) (l : Fin 128),
    (Scalar.select (IntOp.cmpi CmpIPredicate.slt
        (IntOp.addi (BitVec.ofNat 32 (16 * j.val)) (IntOp.shrsi ArithUnit.vector (BitVec.ofNat 32 l.val) 3#32)) 0#32)
      (IntOp.addi (IntOp.addi (BitVec.ofNat 32 (16 * j.val)) (IntOp.shrsi ArithUnit.vector (BitVec.ofNat 32 l.val) 3#32)) 128#32)
      (IntOp.addi (BitVec.ofNat 32 (16 * j.val)) (IntOp.shrsi ArithUnit.vector (BitVec.ofNat 32 l.val) 3#32))).toNat % 128
      = 16 * j.val + l.val / 8 := by decide +kernel

/-- The spread block scales, entry by entry. -/
theorem wScale_apply (s : Vec Ideal S256x96 .fp8e4m3) (j : Fin 6) (r : Fin 256) (l : Fin 128) :
    (wScale s (BitVec.ofNat 32 (16 * j.val)) (ix2 r l) : EReal)
      = s (ix2 r ⟨16 * j.val + l.val / 8, by omega⟩) * Ideal.ofBits .bf16 0x4280#16 := by
  pointwise [wScale, wIdx, k0_pay151]
  rw [dif_pos (by have := wIdx_lane j l; show _ < 96; rw [this]; omega)]
  congr 2
  funext c
  match c with
  | ⟨0, _⟩ => rfl
  | ⟨1, _⟩ => exact Fin.ext (wIdx_lane j l)

/-- A stored block of decoded low nibbles, entry by entry. -/
theorem wPiece_lo (w : Vec Ideal S256x128 .i8) (s : Vec Ideal S256x96 .fp8e4m3) (j : Fin 6) (r : Fin 256) (l : Fin 128) :
    (wPiece (wLo w) (wScale s (BitVec.ofNat 32 (16 * j.val))) (ix2 r l) : EReal)
      = Ideal.ofBits .fp8e4m3 (patLo (w (ix2 r l))) * (s (ix2 r ⟨16 * j.val + l.val / 8, by omega⟩) * Ideal.ofBits .bf16 0x4280#16) := by
  rw [← wScale_apply s j r l, ← wLo_byte w r l]
  pointwise [wPiece]

/-- A stored block of decoded high nibbles, entry by entry. -/
theorem wPiece_hi (w : Vec Ideal S256x128 .i8) (s : Vec Ideal S256x96 .fp8e4m3) (j : Fin 6) (r : Fin 256) (l : Fin 128) :
    (wPiece (wHi w) (wScale s (BitVec.ofNat 32 (16 * j.val))) (ix2 r l) : EReal)
      = Ideal.ofBits .fp8e4m3 (patHi (w (ix2 r l))) * (s (ix2 r ⟨16 * j.val + l.val / 8, by omega⟩) * Ideal.ofBits .bf16 0x4280#16) := by
  rw [← wScale_apply s j r l, ← wHi_byte w r l]
  pointwise [wPiece]

/-- A stored block of low nibbles is the decoded weights over its rectangle. -/
theorem lo_block {arg3 : Memref sig .tc .vmem S1792x768 .i8} (harg3 : arg3.IsWhole) {arg4 : Memref sig .tc .vmem S1792x96 .fp8e4m3}
    (harg4 : arg4.IsWhole) (x2 : Vec Ideal S1792x768 .i8) (x3 : Vec Ideal S1792x96 .fp8e4m3) (k : Fin 7) (j : Fin 6)
    (ro co b) (hro : ro = 256 * k.val) (hco : co = 128 * j.val) (hb : b = BitVec.ofNat 32 (16 * j.val)) (h1 h2 h3)
    (x : (Rect.unit (s := S1792x1536) ![ro, co] S256x128.size h3).shape.Idx) :
    wPiece (wLo (View.readAt (Elt Ideal) arg3.view (Rect.unit (s := S1792x768) ![ro, co] S256x128.size h1).toLoadRect (harg3.unread x2)))
        (wScale (View.readAt (Elt Ideal) arg4.view (Rect.unit (s := S1792x96) ![ro, 0] S256x96.size h2).toLoadRect (harg4.unread x3)) b) x
      = wdG x2 x3 ((Rect.unit (s := S1792x1536) ![ro, co] S256x128.size h3).emb x) := by
  subst hro hco hb
  rw [View.readAt_eq_ld, View.readAt_eq_ld, harg3.read_unread, harg4.read_unread]
  have hx0 : (x 0).val < 256 := (x 0).isLt
  have hx1 : (x 1).val < 128 := (x 1).isLt
  have ex : x = (ix2 ⟨(x 0).val, hx0⟩ ⟨(x 1).val, hx1⟩ : S256x128.Idx) := by
    funext c; match c with | ⟨0, _⟩ => rfl | ⟨1, _⟩ => rfl
  have e0 := ValueKit.rect_emb_unit_val (s := S1792x1536) ![256 * k.val, 128 * j.val] S256x128.size h3 x 0
  have e1 := ValueKit.rect_emb_unit_val (s := S1792x1536) ![256 * k.val, 128 * j.val] S256x128.size h3 x 1
  generalize (Rect.unit (s := S1792x1536) ![256 * k.val, 128 * j.val] S256x128.size h3).emb x = y at e0 e1
  replace e0 : (y 0).val = 256 * k.val + (x 0).val := e0
  replace e1 : (y 1).val = 128 * j.val + (x 1).val := e1
  refine ((congrArg _ ex).trans (wPiece_lo _ _ j _ _)).trans ?_
  have hy : (y 1).val < 768 := by omega
  have hm : (y 1).val % 768 = (y 1).val := Nat.mod_eq_of_lt hy
  unfold wdG
  dsimp only
  rw [if_pos hy]
  congr 2
  · congr 2
    refine View.ld_unit_apply_of _ _ _ _ _ _ fun c => ?_
    match c with
    | ⟨0, _⟩ => exact e0
    | ⟨1, _⟩ => exact hm.trans e1
  · refine View.ld_unit_apply_of _ _ _ _ _ _ fun c => ?_
    match c with
    | ⟨0, _⟩ => exact e0
    | ⟨1, _⟩ => show (y 1).val % 768 / 8 = 0 + (16 * j.val + (x 1).val / 8); omega

/-- A stored block of high nibbles is the decoded weights over its rectangle. -/
theorem hi_block {arg3 : Memref sig .tc .vmem S1792x768 .i8} (harg3 : arg3.IsWhole) {arg4 : Memref sig .tc .vmem S1792x96 .fp8e4m3}
    (harg4 : arg4.IsWhole) (x2 : Vec Ideal S1792x768 .i8) (x3 : Vec Ideal S1792x96 .fp8e4m3) (k : Fin 7) (j : Fin 6)
    (ro co co' b) (hro : ro = 256 * k.val) (hco : co = 128 * j.val) (hco' : co' = 768 + 128 * j.val)
    (hb : b = BitVec.ofNat 32 (16 * j.val)) (h1 h2 h3)
    (x : (Rect.unit (s := S1792x1536) ![ro, co'] S256x128.size h3).shape.Idx) :
    wPiece (wHi (View.readAt (Elt Ideal) arg3.view (Rect.unit (s := S1792x768) ![ro, co] S256x128.size h1).toLoadRect (harg3.unread x2)))
        (wScale (View.readAt (Elt Ideal) arg4.view (Rect.unit (s := S1792x96) ![ro, 0] S256x96.size h2).toLoadRect (harg4.unread x3)) b) x
      = wdG x2 x3 ((Rect.unit (s := S1792x1536) ![ro, co'] S256x128.size h3).emb x) := by
  subst hro hco hco' hb
  rw [View.readAt_eq_ld, View.readAt_eq_ld, harg3.read_unread, harg4.read_unread]
  have hx0 : (x 0).val < 256 := (x 0).isLt
  have hx1 : (x 1).val < 128 := (x 1).isLt
  have ex : x = (ix2 ⟨(x 0).val, hx0⟩ ⟨(x 1).val, hx1⟩ : S256x128.Idx) := by
    funext c; match c with | ⟨0, _⟩ => rfl | ⟨1, _⟩ => rfl
  have e0 := ValueKit.rect_emb_unit_val (s := S1792x1536) ![256 * k.val, 768 + 128 * j.val] S256x128.size h3 x 0
  have e1 := ValueKit.rect_emb_unit_val (s := S1792x1536) ![256 * k.val, 768 + 128 * j.val] S256x128.size h3 x 1
  generalize (Rect.unit (s := S1792x1536) ![256 * k.val, 768 + 128 * j.val] S256x128.size h3).emb x = y at e0 e1
  replace e0 : (y 0).val = 256 * k.val + (x 0).val := e0
  replace e1 : (y 1).val = 768 + 128 * j.val + (x 1).val := e1
  refine ((congrArg _ ex).trans (wPiece_hi _ _ j _ _)).trans ?_
  have hy : ¬ (y 1).val < 768 := by omega
  have hm : (y 1).val % 768 = 128 * j.val + (x 1).val := by omega
  unfold wdG
  dsimp only
  rw [if_neg hy]
  congr 2
  · congr 2
    refine View.ld_unit_apply_of _ _ _ _ _ _ fun c => ?_
    match c with
    | ⟨0, _⟩ => exact e0
    | ⟨1, _⟩ => exact hm
  · refine View.ld_unit_apply_of _ _ _ _ _ _ fun c => ?_
    match c with
    | ⟨0, _⟩ => exact e0
    | ⟨1, _⟩ => show (y 1).val % 768 / 8 = 0 + (16 * j.val + (x 1).val / 8); omega

/-! ## Every store into the decoded-weight scratch writes its rectangle of the decoded weights -/

/-- One more store of low nibbles. -/
theorem piecesOf_lo {arg3 : Memref sig .tc .vmem S1792x768 .i8} (harg3 : arg3.IsWhole) {arg4 : Memref sig .tc .vmem S1792x96 .fp8e4m3}
    (harg4 : arg4.IsWhole) (x2 : Vec Ideal S1792x768 .i8) (x3 : Vec Ideal S1792x96 .fp8e4m3) (k : Fin 7) (j : Fin 6)
    (ro co b) (hro : ro = 256 * k.val) (hco : co = 128 * j.val) (hb : b = BitVec.ofNat 32 (16 * j.val)) (h1 h2 h3)
    {p : FVec Ideal S256x128 .bf16} {L : List (View.Piece (Elt Ideal) S1792x1536 .bf16)}
    (hp : p = wPiece (wLo (View.readAt (Elt Ideal) arg3.view (Rect.unit (s := S1792x768) ![ro, co] S256x128.size h1).toLoadRect (harg3.unread x2)))
        (wScale (View.readAt (Elt Ideal) arg4.view (Rect.unit (s := S1792x96) ![ro, 0] S256x96.size h2).toLoadRect (harg4.unread x3)) b))
    (hL : View.PiecesOf (wdG x2 x3) L) :
    View.PiecesOf (wdG x2 x3) (⟨Rect.unit (s := S1792x1536) ![ro, co] S256x128.size h3, p⟩ :: L) :=
  ⟨fun x => by subst hp; exact lo_block harg3 harg4 x2 x3 k j ro co b hro hco hb h1 h2 h3 x, hL⟩

/-- One more store of high nibbles. -/
theorem piecesOf_hi {arg3 : Memref sig .tc .vmem S1792x768 .i8} (harg3 : arg3.IsWhole) {arg4 : Memref sig .tc .vmem S1792x96 .fp8e4m3}
    (harg4 : arg4.IsWhole) (x2 : Vec Ideal S1792x768 .i8) (x3 : Vec Ideal S1792x96 .fp8e4m3) (k : Fin 7) (j : Fin 6)
    (ro co co' b) (hro : ro = 256 * k.val) (hco : co = 128 * j.val) (hco' : co' = 768 + 128 * j.val)
    (hb : b = BitVec.ofNat 32 (16 * j.val)) (h1 h2 h3)
    {p : FVec Ideal S256x128 .bf16} {L : List (View.Piece (Elt Ideal) S1792x1536 .bf16)}
    (hp : p = wPiece (wHi (View.readAt (Elt Ideal) arg3.view (Rect.unit (s := S1792x768) ![ro, co] S256x128.size h1).toLoadRect (harg3.unread x2)))
        (wScale (View.readAt (Elt Ideal) arg4.view (Rect.unit (s := S1792x96) ![ro, 0] S256x96.size h2).toLoadRect (harg4.unread x3)) b))
    (hL : View.PiecesOf (wdG x2 x3) L) :
    View.PiecesOf (wdG x2 x3) (⟨Rect.unit (s := S1792x1536) ![ro, co'] S256x128.size h3, p⟩ :: L) :=
  ⟨fun x => by subst hp; exact hi_block harg3 harg4 x2 x3 k j ro co co' b hro hco hco' hb h1 h2 h3 x, hL⟩

set_option maxHeartbeats 8000000 in
/-- The stores of the first 1 chunk of 256 weight rows. -/
theorem wd_pieces_12 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_12 c arg3 harg3 arg4 harg4 x2 x3) := by
  unfold runB.sl.HS1_12
  refine piecesOf_hi harg3 harg4 x2 x3 0 5 0 640 1408 80#32 rfl rfl rfl rfl inb_S1792x768_S256x128_0_640 inb_S1792x96_S256x96_0_0 _ rfl ?_
  refine piecesOf_lo harg3 harg4 x2 x3 0 5 0 640 80#32 rfl rfl rfl inb_S1792x768_S256x128_0_640 inb_S1792x96_S256x96_0_0 _ rfl ?_
  refine piecesOf_hi harg3 harg4 x2 x3 0 4 0 512 1280 64#32 rfl rfl rfl rfl inb_S1792x768_S256x128_0_512 inb_S1792x96_S256x96_0_0 _ rfl ?_
  refine piecesOf_lo harg3 harg4 x2 x3 0 4 0 512 64#32 rfl rfl rfl inb_S1792x768_S256x128_0_512 inb_S1792x96_S256x96_0_0 _ rfl ?_
  refine piecesOf_hi harg3 harg4 x2 x3 0 3 0 384 1152 48#32 rfl rfl rfl rfl inb_S1792x768_S256x128_0_384 inb_S1792x96_S256x96_0_0 _ rfl ?_
  refine piecesOf_lo harg3 harg4 x2 x3 0 3 0 384 48#32 rfl rfl rfl inb_S1792x768_S256x128_0_384 inb_S1792x96_S256x96_0_0 _ rfl ?_
  refine piecesOf_hi harg3 harg4 x2 x3 0 2 0 256 1024 32#32 rfl rfl rfl rfl inb_S1792x768_S256x128_0_256 inb_S1792x96_S256x96_0_0 _ rfl ?_
  refine piecesOf_lo harg3 harg4 x2 x3 0 2 0 256 32#32 rfl rfl rfl inb_S1792x768_S256x128_0_256 inb_S1792x96_S256x96_0_0 _ rfl ?_
  refine piecesOf_hi harg3 harg4 x2 x3 0 1 0 128 896 16#32 rfl rfl rfl rfl inb_S1792x768_S256x128_0_128 inb_S1792x96_S256x96_0_0 _ rfl ?_
  refine piecesOf_lo harg3 harg4 x2 x3 0 1 0 128 16#32 rfl rfl rfl inb_S1792x768_S256x128_0_128 inb_S1792x96_S256x96_0_0 _ rfl ?_
  refine piecesOf_hi harg3 harg4 x2 x3 0 0 0 0 768 0#32 rfl rfl rfl rfl inb_S1792x768_S256x128_0_0 inb_S1792x96_S256x96_0_0 _ rfl ?_
  refine piecesOf_lo harg3 harg4 x2 x3 0 0 0 0 0#32 rfl rfl rfl inb_S1792x768_S256x128_0_0 inb_S1792x96_S256x96_0_0 _ rfl ?_
  exact trivial

set_option maxHeartbeats 8000000 in
/-- The stores of the first 2 chunks of 256 weight rows. -/
theorem wd_pieces_24 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_24 c arg3 harg3 arg4 harg4 x2 x3) := by
  unfold runB.sl.HS1_24
  refine piecesOf_hi harg3 harg4 x2 x3 1 5 256 640 1408 80#32 rfl rfl rfl rfl inb_S1792x768_S256x128_256_640 inb_S1792x96_S256x96_256_0 _ rfl ?_
  refine piecesOf_lo harg3 harg4 x2 x3 1 5 256 640 80#32 rfl rfl rfl inb_S1792x768_S256x128_256_640 inb_S1792x96_S256x96_256_0 _ rfl ?_
  refine piecesOf_hi harg3 harg4 x2 x3 1 4 256 512 1280 64#32 rfl rfl rfl rfl inb_S1792x768_S256x128_256_512 inb_S1792x96_S256x96_256_0 _ rfl ?_
  refine piecesOf_lo harg3 harg4 x2 x3 1 4 256 512 64#32 rfl rfl rfl inb_S1792x768_S256x128_256_512 inb_S1792x96_S256x96_256_0 _ rfl ?_
  refine piecesOf_hi harg3 harg4 x2 x3 1 3 256 384 1152 48#32 rfl rfl rfl rfl inb_S1792x768_S256x128_256_384 inb_S1792x96_S256x96_256_0 _ rfl ?_
  refine piecesOf_lo harg3 harg4 x2 x3 1 3 256 384 48#32 rfl rfl rfl inb_S1792x768_S256x128_256_384 inb_S1792x96_S256x96_256_0 _ rfl ?_
  refine piecesOf_hi harg3 harg4 x2 x3 1 2 256 256 1024 32#32 rfl rfl rfl rfl inb_S1792x768_S256x128_256_256 inb_S1792x96_S256x96_256_0 _ rfl ?_
  refine piecesOf_lo harg3 harg4 x2 x3 1 2 256 256 32#32 rfl rfl rfl inb_S1792x768_S256x128_256_256 inb_S1792x96_S256x96_256_0 _ rfl ?_
  refine piecesOf_hi harg3 harg4 x2 x3 1 1 256 128 896 16#32 rfl rfl rfl rfl inb_S1792x768_S256x128_256_128 inb_S1792x96_S256x96_256_0 _ rfl ?_
  refine piecesOf_lo harg3 harg4 x2 x3 1 1 256 128 16#32 rfl rfl rfl inb_S1792x768_S256x128_256_128 inb_S1792x96_S256x96_256_0 _ rfl ?_
  refine piecesOf_hi harg3 harg4 x2 x3 1 0 256 0 768 0#32 rfl rfl rfl rfl inb_S1792x768_S256x128_256_0 inb_S1792x96_S256x96_256_0 _ rfl ?_
  refine piecesOf_lo harg3 harg4 x2 x3 1 0 256 0 0#32 rfl rfl rfl inb_S1792x768_S256x128_256_0 inb_S1792x96_S256x96_256_0 _ rfl ?_
  exact wd_pieces_12 c arg3 harg3 arg4 harg4 x2 x3

set_option maxHeartbeats 8000000 in
/-- The stores of the first 3 chunks of 256 weight rows. -/
theorem wd_pieces_36 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_36 c arg3 harg3 arg4 harg4 x2 x3) := by
  unfold runB.sl.HS1_36
  refine piecesOf_hi harg3 harg4 x2 x3 2 5 512 640 1408 80#32 rfl rfl rfl rfl inb_S1792x768_S256x128_512_640 inb_S1792x96_S256x96_512_0 _ rfl ?_
  refine piecesOf_lo harg3 harg4 x2 x3 2 5 512 640 80#32 rfl rfl rfl inb_S1792x768_S256x128_512_640 inb_S1792x96_S256x96_512_0 _ rfl ?_
  refine piecesOf_hi harg3 harg4 x2 x3 2 4 512 512 1280 64#32 rfl rfl rfl rfl inb_S1792x768_S256x128_512_512 inb_S1792x96_S256x96_512_0 _ rfl ?_
  refine piecesOf_lo harg3 harg4 x2 x3 2 4 512 512 64#32 rfl rfl rfl inb_S1792x768_S256x128_512_512 inb_S1792x96_S256x96_512_0 _ rfl ?_
  refine piecesOf_hi harg3 harg4 x2 x3 2 3 512 384 1152 48#32 rfl rfl rfl rfl inb_S1792x768_S256x128_512_384 inb_S1792x96_S256x96_512_0 _ rfl ?_
  refine piecesOf_lo harg3 harg4 x2 x3 2 3 512 384 48#32 rfl rfl rfl inb_S1792x768_S256x128_512_384 inb_S1792x96_S256x96_512_0 _ rfl ?_
  refine piecesOf_hi harg3 harg4 x2 x3 2 2 512 256 1024 32#32 rfl rfl rfl rfl inb_S1792x768_S256x128_512_256 inb_S1792x96_S256x96_512_0 _ rfl ?_
  refine piecesOf_lo harg3 harg4 x2 x3 2 2 512 256 32#32 rfl rfl rfl inb_S1792x768_S256x128_512_256 inb_S1792x96_S256x96_512_0 _ rfl ?_
  refine piecesOf_hi harg3 harg4 x2 x3 2 1 512 128 896 16#32 rfl rfl rfl rfl inb_S1792x768_S256x128_512_128 inb_S1792x96_S256x96_512_0 _ rfl ?_
  refine piecesOf_lo harg3 harg4 x2 x3 2 1 512 128 16#32 rfl rfl rfl inb_S1792x768_S256x128_512_128 inb_S1792x96_S256x96_512_0 _ rfl ?_
  refine piecesOf_hi harg3 harg4 x2 x3 2 0 512 0 768 0#32 rfl rfl rfl rfl inb_S1792x768_S256x128_512_0 inb_S1792x96_S256x96_512_0 _ rfl ?_
  refine piecesOf_lo harg3 harg4 x2 x3 2 0 512 0 0#32 rfl rfl rfl inb_S1792x768_S256x128_512_0 inb_S1792x96_S256x96_512_0 _ rfl ?_
  exact wd_pieces_24 c arg3 harg3 arg4 harg4 x2 x3

set_option maxHeartbeats 8000000 in
/-- The stores of the first 4 chunks of 256 weight rows. -/
theorem wd_pieces_48 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_48 c arg3 harg3 arg4 harg4 x2 x3) := by
  unfold runB.sl.HS1_48
  refine piecesOf_hi harg3 harg4 x2 x3 3 5 768 640 1408 80#32 rfl rfl rfl rfl inb_S1792x768_S256x128_768_640 inb_S1792x96_S256x96_768_0 _ rfl ?_
  refine piecesOf_lo harg3 harg4 x2 x3 3 5 768 640 80#32 rfl rfl rfl inb_S1792x768_S256x128_768_640 inb_S1792x96_S256x96_768_0 _ rfl ?_
  refine piecesOf_hi harg3 harg4 x2 x3 3 4 768 512 1280 64#32 rfl rfl rfl rfl inb_S1792x768_S256x128_768_512 inb_S1792x96_S256x96_768_0 _ rfl ?_
  refine piecesOf_lo harg3 harg4 x2 x3 3 4 768 512 64#32 rfl rfl rfl inb_S1792x768_S256x128_768_512 inb_S1792x96_S256x96_768_0 _ rfl ?_
  refine piecesOf_hi harg3 harg4 x2 x3 3 3 768 384 1152 48#32 rfl rfl rfl rfl inb_S1792x768_S256x128_768_384 inb_S1792x96_S256x96_768_0 _ rfl ?_
  refine piecesOf_lo harg3 harg4 x2 x3 3 3 768 384 48#32 rfl rfl rfl inb_S1792x768_S256x128_768_384 inb_S1792x96_S256x96_768_0 _ rfl ?_
  refine piecesOf_hi harg3 harg4 x2 x3 3 2 768 256 1024 32#32 rfl rfl rfl rfl inb_S1792x768_S256x128_768_256 inb_S1792x96_S256x96_768_0 _ rfl ?_
  refine piecesOf_lo harg3 harg4 x2 x3 3 2 768 256 32#32 rfl rfl rfl inb_S1792x768_S256x128_768_256 inb_S1792x96_S256x96_768_0 _ rfl ?_
  refine piecesOf_hi harg3 harg4 x2 x3 3 1 768 128 896 16#32 rfl rfl rfl rfl inb_S1792x768_S256x128_768_128 inb_S1792x96_S256x96_768_0 _ rfl ?_
  refine piecesOf_lo harg3 harg4 x2 x3 3 1 768 128 16#32 rfl rfl rfl inb_S1792x768_S256x128_768_128 inb_S1792x96_S256x96_768_0 _ rfl ?_
  refine piecesOf_hi harg3 harg4 x2 x3 3 0 768 0 768 0#32 rfl rfl rfl rfl inb_S1792x768_S256x128_768_0 inb_S1792x96_S256x96_768_0 _ rfl ?_
  refine piecesOf_lo harg3 harg4 x2 x3 3 0 768 0 0#32 rfl rfl rfl inb_S1792x768_S256x128_768_0 inb_S1792x96_S256x96_768_0 _ rfl ?_
  exact wd_pieces_36 c arg3 harg3 arg4 harg4 x2 x3

set_option maxHeartbeats 8000000 in
/-- The stores of the first 5 chunks of 256 weight rows. -/
theorem wd_pieces_60 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_60 c arg3 harg3 arg4 harg4 x2 x3) := by
  unfold runB.sl.HS1_60
  refine piecesOf_hi harg3 harg4 x2 x3 4 5 1024 640 1408 80#32 rfl rfl rfl rfl inb_S1792x768_S256x128_1024_640 inb_S1792x96_S256x96_1024_0 _ rfl ?_
  refine piecesOf_lo harg3 harg4 x2 x3 4 5 1024 640 80#32 rfl rfl rfl inb_S1792x768_S256x128_1024_640 inb_S1792x96_S256x96_1024_0 _ rfl ?_
  refine piecesOf_hi harg3 harg4 x2 x3 4 4 1024 512 1280 64#32 rfl rfl rfl rfl inb_S1792x768_S256x128_1024_512 inb_S1792x96_S256x96_1024_0 _ rfl ?_
  refine piecesOf_lo harg3 harg4 x2 x3 4 4 1024 512 64#32 rfl rfl rfl inb_S1792x768_S256x128_1024_512 inb_S1792x96_S256x96_1024_0 _ rfl ?_
  refine piecesOf_hi harg3 harg4 x2 x3 4 3 1024 384 1152 48#32 rfl rfl rfl rfl inb_S1792x768_S256x128_1024_384 inb_S1792x96_S256x96_1024_0 _ rfl ?_
  refine piecesOf_lo harg3 harg4 x2 x3 4 3 1024 384 48#32 rfl rfl rfl inb_S1792x768_S256x128_1024_384 inb_S1792x96_S256x96_1024_0 _ rfl ?_
  refine piecesOf_hi harg3 harg4 x2 x3 4 2 1024 256 1024 32#32 rfl rfl rfl rfl inb_S1792x768_S256x128_1024_256 inb_S1792x96_S256x96_1024_0 _ rfl ?_
  refine piecesOf_lo harg3 harg4 x2 x3 4 2 1024 256 32#32 rfl rfl rfl inb_S1792x768_S256x128_1024_256 inb_S1792x96_S256x96_1024_0 _ rfl ?_
  refine piecesOf_hi harg3 harg4 x2 x3 4 1 1024 128 896 16#32 rfl rfl rfl rfl inb_S1792x768_S256x128_1024_128 inb_S1792x96_S256x96_1024_0 _ rfl ?_
  refine piecesOf_lo harg3 harg4 x2 x3 4 1 1024 128 16#32 rfl rfl rfl inb_S1792x768_S256x128_1024_128 inb_S1792x96_S256x96_1024_0 _ rfl ?_
  refine piecesOf_hi harg3 harg4 x2 x3 4 0 1024 0 768 0#32 rfl rfl rfl rfl inb_S1792x768_S256x128_1024_0 inb_S1792x96_S256x96_1024_0 _ rfl ?_
  refine piecesOf_lo harg3 harg4 x2 x3 4 0 1024 0 0#32 rfl rfl rfl inb_S1792x768_S256x128_1024_0 inb_S1792x96_S256x96_1024_0 _ rfl ?_
  exact wd_pieces_48 c arg3 harg3 arg4 harg4 x2 x3

set_option maxHeartbeats 8000000 in
/-- The stores of the first 6 chunks of 256 weight rows. -/
theorem wd_pieces_72 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_72 c arg3 harg3 arg4 harg4 x2 x3) := by
  unfold runB.sl.HS1_72
  refine piecesOf_hi harg3 harg4 x2 x3 5 5 1280 640 1408 80#32 rfl rfl rfl rfl inb_S1792x768_S256x128_1280_640 inb_S1792x96_S256x96_1280_0 _ rfl ?_
  refine piecesOf_lo harg3 harg4 x2 x3 5 5 1280 640 80#32 rfl rfl rfl inb_S1792x768_S256x128_1280_640 inb_S1792x96_S256x96_1280_0 _ rfl ?_
  refine piecesOf_hi harg3 harg4 x2 x3 5 4 1280 512 1280 64#32 rfl rfl rfl rfl inb_S1792x768_S256x128_1280_512 inb_S1792x96_S256x96_1280_0 _ rfl ?_
  refine piecesOf_lo harg3 harg4 x2 x3 5 4 1280 512 64#32 rfl rfl rfl inb_S1792x768_S256x128_1280_512 inb_S1792x96_S256x96_1280_0 _ rfl ?_
  refine piecesOf_hi harg3 harg4 x2 x3 5 3 1280 384 1152 48#32 rfl rfl rfl rfl inb_S1792x768_S256x128_1280_384 inb_S1792x96_S256x96_1280_0 _ rfl ?_
  refine piecesOf_lo harg3 harg4 x2 x3 5 3 1280 384 48#32 rfl rfl rfl inb_S1792x768_S256x128_1280_384 inb_S1792x96_S256x96_1280_0 _ rfl ?_
  refine piecesOf_hi harg3 harg4 x2 x3 5 2 1280 256 1024 32#32 rfl rfl rfl rfl inb_S1792x768_S256x128_1280_256 inb_S1792x96_S256x96_1280_0 _ rfl ?_
  refine piecesOf_lo harg3 harg4 x2 x3 5 2 1280 256 32#32 rfl rfl rfl inb_S1792x768_S256x128_1280_256 inb_S1792x96_S256x96_1280_0 _ rfl ?_
  refine piecesOf_hi harg3 harg4 x2 x3 5 1 1280 128 896 16#32 rfl rfl rfl rfl inb_S1792x768_S256x128_1280_128 inb_S1792x96_S256x96_1280_0 _ rfl ?_
  refine piecesOf_lo harg3 harg4 x2 x3 5 1 1280 128 16#32 rfl rfl rfl inb_S1792x768_S256x128_1280_128 inb_S1792x96_S256x96_1280_0 _ rfl ?_
  refine piecesOf_hi harg3 harg4 x2 x3 5 0 1280 0 768 0#32 rfl rfl rfl rfl inb_S1792x768_S256x128_1280_0 inb_S1792x96_S256x96_1280_0 _ rfl ?_
  refine piecesOf_lo harg3 harg4 x2 x3 5 0 1280 0 0#32 rfl rfl rfl inb_S1792x768_S256x128_1280_0 inb_S1792x96_S256x96_1280_0 _ rfl ?_
  exact wd_pieces_60 c arg3 harg3 arg4 harg4 x2 x3

set_option maxHeartbeats 8000000 in
/-- The stores of the first 7 chunks of 256 weight rows. -/
theorem wd_pieces_84 (c : Dev nD) (arg3 : Memref sig .tc .vmem S1792x768 .i8) (harg3 : arg3.IsWhole) (arg4 : Memref sig .tc .vmem S1792x96 .fp8e4m3)
    (harg4 : arg4.IsWhole) (x2 : Vec Ideal S1792x768 .i8) (x3 : Vec Ideal S1792x96 .fp8e4m3) :
    View.PiecesOf (wdG x2 x3) (runB.sl.HS1_84 c arg3 harg3 arg4 harg4 x2 x3) := by
  unfold runB.sl.HS1_84
  refine piecesOf_hi harg3 harg4 x2 x3 6 5 1536 640 1408 80#32 rfl rfl rfl rfl inb_S1792x768_S256x128_1536_640 inb_S1792x96_S256x96_1536_0 _ rfl ?_
  refine piecesOf_lo harg3 harg4 x2 x3 6 5 1536 640 80#32 rfl rfl rfl inb_S1792x768_S256x128_1536_640 inb_S1792x96_S256x96_1536_0 _ rfl ?_
  refine piecesOf_hi harg3 harg4 x2 x3 6 4 1536 512 1280 64#32 rfl rfl rfl rfl inb_S1792x768_S256x128_1536_512 inb_S1792x96_S256x96_1536_0 _ rfl ?_
  refine piecesOf_lo harg3 harg4 x2 x3 6 4 1536 512 64#32 rfl rfl rfl inb_S1792x768_S256x128_1536_512 inb_S1792x96_S256x96_1536_0 _ rfl ?_
  refine piecesOf_hi harg3 harg4 x2 x3 6 3 1536 384 1152 48#32 rfl rfl rfl rfl inb_S1792x768_S256x128_1536_384 inb_S1792x96_S256x96_1536_0 _ rfl ?_
  refine piecesOf_lo harg3 harg4 x2 x3 6 3 1536 384 48#32 rfl rfl rfl inb_S1792x768_S256x128_1536_384 inb_S1792x96_S256x96_1536_0 _ rfl ?_
  refine piecesOf_hi harg3 harg4 x2 x3 6 2 1536 256 1024 32#32 rfl rfl rfl rfl inb_S1792x768_S256x128_1536_256 inb_S1792x96_S256x96_1536_0 _ rfl ?_
  refine piecesOf_lo harg3 harg4 x2 x3 6 2 1536 256 32#32 rfl rfl rfl inb_S1792x768_S256x128_1536_256 inb_S1792x96_S256x96_1536_0 _ rfl ?_
  refine piecesOf_hi harg3 harg4 x2 x3 6 1 1536 128 896 16#32 rfl rfl rfl rfl inb_S1792x768_S256x128_1536_128 inb_S1792x96_S256x96_1536_0 _ rfl ?_
  refine piecesOf_lo harg3 harg4 x2 x3 6 1 1536 128 16#32 rfl rfl rfl inb_S1792x768_S256x128_1536_128 inb_S1792x96_S256x96_1536_0 _ rfl ?_
  refine piecesOf_hi harg3 harg4 x2 x3 6 0 1536 0 768 0#32 rfl rfl rfl rfl inb_S1792x768_S256x128_1536_0 inb_S1792x96_S256x96_1536_0 _ rfl ?_
  refine piecesOf_lo harg3 harg4 x2 x3 6 0 1536 0 0#32 rfl rfl rfl inb_S1792x768_S256x128_1536_0 inb_S1792x96_S256x96_1536_0 _ rfl ?_
  exact wd_pieces_72 c arg3 harg3 arg4 harg4 x2 x3

/-- A load of one chunk of 256 decoded rows, all of whose columns the run has stored. -/
theorem wd_chunk (arg9 : Memref sig .tc .vmem S1792x1536 .bf16) (G : Vec Ideal S1792x1536 .bf16) (L : List (View.Piece (Elt Ideal) S1792x1536 .bf16))
    (hL : View.PiecesOf G L) (ro : Nat) (h : ∀ a, (![ro, 0] : Fin 2 → Nat) a + S256x1536.size a ≤ S1792x1536.size a)
    (hc : ∀ y : (Rect.unit (s := S1792x1536) ![ro, 0] S256x1536.size h).shape.Idx, ∃ p ∈ L, (Rect.unit (s := S1792x1536) ![ro, 0] S256x1536.size h).emb y ∈ p.1.set) :
    arg9.view.readCov L (Rect.unit (s := S1792x1536) ![ro, 0] S256x1536.size h).toLoadRect
      = View.ld G (Rect.unit (s := S1792x1536) ![ro, 0] S256x1536.size h) := by
  rw [View.readCov_eq_canon']
  funext y
  have := View.canon_append_of_piecesOf G [] L hL ((Rect.unit (s := S1792x1536) ![ro, 0] S256x1536.size h).emb y) (hc y)
  rw [List.append_nil] at this
  exact this

/-- A place inside the newest store's rectangle, or stored before it, is stored. -/
theorem cov_cons (ro co : Nat) (h : ∀ a, (![ro, co] : Fin 2 → Nat) a + S256x128.size a ≤ S1792x1536.size a) (p : FVec Ideal S256x128 .bf16)
    (L : List (View.Piece (Elt Ideal) S1792x1536 .bf16)) (y : S1792x1536.Idx)
    (hy : ((ro ≤ (y 0).val ∧ (y 0).val < ro + 256) ∧ (co ≤ (y 1).val ∧ (y 1).val < co + 128)) ∨ ∃ p ∈ L, y ∈ p.1.set) :
    ∃ q ∈ ((⟨Rect.unit (s := S1792x1536) ![ro, co] S256x128.size h, p⟩ : View.Piece (Elt Ideal) S1792x1536 .bf16) :: L), y ∈ q.1.set := by
  rcases hy with hy | ⟨q, hq, hy⟩
  · refine ⟨_, List.mem_cons_self, ?_⟩
    rw [Rect.mem_set_unit]
    intro a
    match a with
    | ⟨0, _⟩ => exact hy.1
    | ⟨1, _⟩ => exact hy.2
  · exact ⟨q, List.mem_cons_of_mem _ hq, hy⟩

/-- The twelve stores of one chunk store all of its 256 rows. -/
theorem cov_chunk (ro : Nat) {h0 h1 h2 h3 h4 h5 h6 h7 h8 h9 h10 h11} {p0 p1 p2 p3 p4 p5 p6 p7 p8 p9 p10 p11 : FVec Ideal S256x128 .bf16}
    {L : List (View.Piece (Elt Ideal) S1792x1536 .bf16)} (hr : ∀ a, (![ro, 0] : Fin 2 → Nat) a + S256x1536.size a ≤ S1792x1536.size a)
    (x : (Rect.unit (s := S1792x1536) ![ro, 0] S256x1536.size hr).shape.Idx) :
    ∃ q ∈ ((⟨Rect.unit (s := S1792x1536) ![ro, 1408] S256x128.size h0, p0⟩ ::
      ⟨Rect.unit (s := S1792x1536) ![ro, 640] S256x128.size h1, p1⟩ ::
      ⟨Rect.unit (s := S1792x1536) ![ro, 1280] S256x128.size h2, p2⟩ ::
      ⟨Rect.unit (s := S1792x1536) ![ro, 512] S256x128.size h3, p3⟩ ::
      ⟨Rect.unit (s := S1792x1536) ![ro, 1152] S256x128.size h4, p4⟩ ::
      ⟨Rect.unit (s := S1792x1536) ![ro, 384] S256x128.size h5, p5⟩ ::
      ⟨Rect.unit (s := S1792x1536) ![ro, 1024] S256x128.size h6, p6⟩ ::
      ⟨Rect.unit (s := S1792x1536) ![ro, 256] S256x128.size h7, p7⟩ ::
      ⟨Rect.unit (s := S1792x1536) ![ro, 896] S256x128.size h8, p8⟩ ::
      ⟨Rect.unit (s := S1792x1536) ![ro, 128] S256x128.size h9, p9⟩ ::
      ⟨Rect.unit (s := S1792x1536) ![ro, 768] S256x128.size h10, p10⟩ ::
      ⟨Rect.unit (s := S1792x1536) ![ro, 0] S256x128.size h11, p11⟩ :: L)
      : List (View.Piece (Elt Ideal) S1792x1536 .bf16)),
      (Rect.unit (s := S1792x1536) ![ro, 0] S256x1536.size hr).emb x ∈ q.1.set := by
  have e0 := ValueKit.rect_emb_unit_val (s := S1792x1536) ![ro, 0] S256x1536.size hr x 0
  have e1 := ValueKit.rect_emb_unit_val (s := S1792x1536) ![ro, 0] S256x1536.size hr x 1
  have hx0 : (x 0).val < 256 := (x 0).isLt
  have hx1 : (x 1).val < 1536 := (x 1).isLt
  generalize (Rect.unit (s := S1792x1536) ![ro, 0] S256x1536.size hr).emb x = y at e0 e1
  replace e0 : (y 0).val = ro + (x 0).val := e0
  replace e1 : (y 1).val = 0 + (x 1).val := e1
  have hrow : ro ≤ (y 0).val ∧ (y 0).val < ro + 256 := by omega
  have hcol : (y 1).val < 1536 := by omega
  by_cases c0 : 1408 ≤ (y 1).val ∧ (y 1).val < 1408 + 128
  · exact cov_cons _ _ _ _ _ _ (Or.inl ⟨hrow, c0⟩)
  refine cov_cons _ _ _ _ _ _ (Or.inr ?_)
  by_cases c1 : 640 ≤ (y 1).val ∧ (y 1).val < 640 + 128
  · exact cov_cons _ _ _ _ _ _ (Or.inl ⟨hrow, c1⟩)
  refine cov_cons _ _ _ _ _ _ (Or.inr ?_)
  by_cases c2 : 1280 ≤ (y 1).val ∧ (y 1).val < 1280 + 128
  · exact cov_cons _ _ _ _ _ _ (Or.inl ⟨hrow, c2⟩)
  refine cov_cons _ _ _ _ _ _ (Or.inr ?_)
  by_cases c3 : 512 ≤ (y 1).val ∧ (y 1).val < 512 + 128
  · exact cov_cons _ _ _ _ _ _ (Or.inl ⟨hrow, c3⟩)
  refine cov_cons _ _ _ _ _ _ (Or.inr ?_)
  by_cases c4 : 1152 ≤ (y 1).val ∧ (y 1).val < 1152 + 128
  · exact cov_cons _ _ _ _ _ _ (Or.inl ⟨hrow, c4⟩)
  refine cov_cons _ _ _ _ _ _ (Or.inr ?_)
  by_cases c5 : 384 ≤ (y 1).val ∧ (y 1).val < 384 + 128
  · exact cov_cons _ _ _ _ _ _ (Or.inl ⟨hrow, c5⟩)
  refine cov_cons _ _ _ _ _ _ (Or.inr ?_)
  by_cases c6 : 1024 ≤ (y 1).val ∧ (y 1).val < 1024 + 128
  · exact cov_cons _ _ _ _ _ _ (Or.inl ⟨hrow, c6⟩)
  refine cov_cons _ _ _ _ _ _ (Or.inr ?_)
  by_cases c7 : 256 ≤ (y 1).val ∧ (y 1).val < 256 + 128
  · exact cov_cons _ _ _ _ _ _ (Or.inl ⟨hrow, c7⟩)
  refine cov_cons _ _ _ _ _ _ (Or.inr ?_)
  by_cases c8 : 896 ≤ (y 1).val ∧ (y 1).val < 896 + 128
  · exact cov_cons _ _ _ _ _ _ (Or.inl ⟨hrow, c8⟩)
  refine cov_cons _ _ _ _ _ _ (Or.inr ?_)
  by_cases c9 : 128 ≤ (y 1).val ∧ (y 1).val < 128 + 128
  · exact cov_cons _ _ _ _ _ _ (Or.inl ⟨hrow, c9⟩)
  refine cov_cons _ _ _ _ _ _ (Or.inr ?_)
  by_cases c10 : 768 ≤ (y 1).val ∧ (y 1).val < 768 + 128
  · exact cov_cons _ _ _ _ _ _ (Or.inl ⟨hrow, c10⟩)
  refine cov_cons _ _ _ _ _ _ (Or.inr ?_)
  by_cases c11 : 0 ≤ (y 1).val ∧ (y 1).val < 0 + 128
  · exact cov_cons _ _ _ _ _ _ (Or.inl ⟨hrow, c11⟩)
  refine cov_cons _ _ _ _ _ _ (Or.inr ?_)
  omega

/-- The 1-th chunk of decoded weights, as the products load it. -/
theorem wd_load_0 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v280 c arg3 harg3 arg4 harg4 arg9 x2 x3
      = View.ld (wdG x2 x3) (Rect.unit (s := S1792x1536) ![0, 0] S256x1536.size inb_S1792x1536_S256x1536_0_0) :=
  wd_chunk arg9 _ _ (wd_pieces_12 c arg3 harg3 arg4 harg4 x2 x3) 0 _ (cov_chunk 0 _)

/-- The 2-th chunk of decoded weights, as the products load it. -/
theorem wd_load_1 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v562 c arg3 harg3 arg4 harg4 arg9 x2 x3
      = View.ld (wdG x2 x3) (Rect.unit (s := S1792x1536) ![256, 0] S256x1536.size inb_S1792x1536_S256x1536_256_0) :=
  wd_chunk arg9 _ _ (wd_pieces_24 c arg3 harg3 arg4 harg4 x2 x3) 256 _ (cov_chunk 256 _)

/-- The 3-th chunk of decoded weights, as the products load it. -/
theorem wd_load_2 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v844 c arg3 harg3 arg4 harg4 arg9 x2 x3
      = View.ld (wdG x2 x3) (Rect.unit (s := S1792x1536) ![512, 0] S256x1536.size inb_S1792x1536_S256x1536_512_0) :=
  wd_chunk arg9 _ _ (wd_pieces_36 c arg3 harg3 arg4 harg4 x2 x3) 512 _ (cov_chunk 512 _)

/-- The 4-th chunk of decoded weights, as the products load it. -/
theorem wd_load_3 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v1126 c arg3 harg3 arg4 harg4 arg9 x2 x3
      = View.ld (wdG x2 x3) (Rect.unit (s := S1792x1536) ![768, 0] S256x1536.size inb_S1792x1536_S256x1536_768_0) :=
  wd_chunk arg9 _ _ (wd_pieces_48 c arg3 harg3 arg4 harg4 x2 x3) 768 _ (cov_chunk 768 _)

/-- The 5-th chunk of decoded weights, as the products load it. -/
theorem wd_load_4 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v1408 c arg3 harg3 arg4 harg4 arg9 x2 x3
      = View.ld (wdG x2 x3) (Rect.unit (s := S1792x1536) ![1024, 0] S256x1536.size inb_S1792x1536_S256x1536_1024_0) :=
  wd_chunk arg9 _ _ (wd_pieces_60 c arg3 harg3 arg4 harg4 x2 x3) 1024 _ (cov_chunk 1024 _)

/-- The 6-th chunk of decoded weights, as the products load it. -/
theorem wd_load_5 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v1690 c arg3 harg3 arg4 harg4 arg9 x2 x3
      = View.ld (wdG x2 x3) (Rect.unit (s := S1792x1536) ![1280, 0] S256x1536.size inb_S1792x1536_S256x1536_1280_0) :=
  wd_chunk arg9 _ _ (wd_pieces_72 c arg3 harg3 arg4 harg4 x2 x3) 1280 _ (cov_chunk 1280 _)

/-- The 7-th chunk of decoded weights, as the products load it. -/
theorem wd_load_6 (c : Dev nD) (arg3 : Memref sig .tc .vmem S1792x768 .i8) (harg3 : arg3.IsWhole) (arg4 : Memref sig .tc .vmem S1792x96 .fp8e4m3)
    (harg4 : arg4.IsWhole) (arg9 : Memref sig .tc .vmem S1792x1536 .bf16) (x2 : Vec Ideal S1792x768 .i8) (x3 : Vec Ideal S1792x96 .fp8e4m3) :
    runB.sl.v1972 c arg3 harg3 arg4 harg4 arg9 x2 x3
      = View.ld (wdG x2 x3) (Rect.unit (s := S1792x1536) ![1536, 0] S256x1536.size inb_S1792x1536_S256x1536_1536_0) :=
  wd_chunk arg9 _ _ (wd_pieces_84 c arg3 harg3 arg4 harg4 x2 x3) 1536 _ (cov_chunk 1536 _)

end Cert.KernelIdeal.Gen

end
-- ==== Proof.Ideal.Quant.lean ====
module

public import proofs.«01_k».proof.Proof.Ideal.Decode

@[expose] public section

/-! The quantiser of the kernel's body, one trip of 32 rows: what its registers hold, entry by entry. -/

set_option maxRecDepth 16384

noncomputable section

namespace Cert.KernelIdeal.Gen

open Idealize.ShloMosaic Idealize.ShloMosaic.TcCoe Idealize.ShloMosaic.Tactic

local notation "BF" => Vec Ideal S32x128 EltTy.bf16
local notation "FF" => FVec Ideal S32x128 FTy.f32

/-! ## The trip's words, spelled once -/

/-- The even columns of a pair of 128-column blocks. -/
def eW (A B : BF) : FF := k0_pay10 k0_pay2 (k0_pay6 B) (k0_pay7 A) k0_pay8
/-- The odd columns of a pair of 128-column blocks. -/
def oW (A B : BF) : FF := k0_pay11 k0_pay2 (k0_pay6 B) (k0_pay7 A) k0_pay8
/-- The greater magnitude of each even column and its odd neighbour. -/
def mxW (A B : BF) : FF := k0_pay12 k0_pay2 (k0_pay6 B) (k0_pay7 A) k0_pay8
/-- The lane numbers. -/
def laneW : IVec S32x128 32 := iota .tc S32x128 32 [1] iota_S32x128_d1_w32
/-- One step of the groups' maximum: lanes whose number has bit `b` clear keep `f`, the others `f'`, each with its
    partner across that bit. -/
def stW (b : BitVec 32) (f f' : FF) : FF :=
  let m := cmpi .eq (andi laneW (broadcast S32x128 b)) (broadcast S32x128 0#32)
  let x := xori laneW (broadcast S32x128 b)
  extf .f32 (maximumf (truncf .bf16 (select m f f') bitsLt_bf16_f32)
    (truncf .bf16 (dynamicGather 1 (select m f' f) (shapeCast S32x128 (shapeCast S32x128x1
      (select (cmpi .slt x (broadcast S32x128 0#32)) (addi x (broadcast S32x128 128#32)) x)
      shapeCasts_S32x128_S32x128x1) shapeCasts_S32x128x1_S32x128)) bitsLt_bf16_f32)) bitsLt_bf16_f32
/-- The groups' maxima of six registers folded into one. -/
def foldW (m0 m1 m2 m3 m4 m5 : FF) : FF :=
  let a := stW 2#32 (stW 1#32 m0 m1) (stW 1#32 m2 m3)
  let b := stW 1#32 m4 m5
  let d := stW 4#32 a (stW 2#32 b b)
  stW 8#32 d d
/-- The maxima times the reciprocal of the largest fp8 number. -/
def aW (m : FF) : FF := mulf (extf .f32 (truncf .bf16 m bitsLt_bf16_f32) bitsLt_bf16_f32) (broadcast S32x128 (Scalar.ofBits .f32 0x3B124925#32))
/-- One step of the search for the exponent. -/
def seW (a : FF) (b : BitVec 32) (t : IVec S32x128 32) : IVec S32x128 32 :=
  select (cmpf .oge a (bitcastToFloat .f32 (shli (addi t (broadcast S32x128 b)) (broadcast S32x128 23#32)))) (addi t (broadcast S32x128 b)) t
/-- The exponent search's five coarse steps. -/
def tW (a : FF) : IVec S32x128 32 := seW a 8#32 (seW a 16#32 (seW a 32#32 (seW a 64#32 (seW a 128#32 (broadcast S32x128 0#32)))))
/-- The scales, one for each lane's group. -/
def sW (a : FF) : FF := k0_pay63 a (tW a)
/-- The scales' reciprocals. -/
def iW (a : FF) : FF := k0_pay64 a (tW a)
/-- The lane of each lane's group that holds register `b`'s scale. -/
def bW (b : BitVec 32) : IVec S32x128 32 := addi (andi laneW (broadcast S32x128 4294967280#32)) (broadcast S32x128 b)
/-- The codes of one half of a register pair. -/
def cW (b : BitVec 32) (e inv : FF) : FVec Ideal S32x128 .fp8e4m3 := k0_pay77 e inv (bW b)
/-- The codes times their scales. -/
def xW (b : BitVec 32) (e s inv : FF) : FVec Ideal S32x128 .bf16 :=
  k0_pay78 e s inv (bW b) (cmpi .slt (bW b) (broadcast S32x128 0#32)) (broadcast S32x128 128#32)
/-- The codes of a pair's first block, in column order. -/
def c1W (b : BitVec 32) (e o inv : FF) : FVec Ideal S32x128 .fp8e4m3 := k0_pay84 k0_pay70 (k0_pay83 e o inv k0_pay68 (bW b))
/-- The codes of a pair's second block, in column order. -/
def c2W (b : BitVec 32) (e o inv : FF) : FVec Ideal S32x128 .fp8e4m3 := k0_pay85 k0_pay68 k0_pay71 (k0_pay79 e inv (bW b)) (k0_pay82 o inv (bW b))
/-- The scales of a trip's rows, in group order. -/
def scW (s : FF) : FVec Ideal S32x48 .f32 := k0_pay67 s (k0_pay65 laneW) (k0_pay66 laneW) 0#32

/-! ## Lanes of a register: where the gathers look -/

/-- Column `c` of a pair of blocks. -/
def pair (A B : Fin 128 → EReal) (c : Nat) : EReal :=
  if c % 256 < 128 then A ⟨c % 128, Nat.mod_lt _ (by decide)⟩ else B ⟨c % 128, Nat.mod_lt _ (by decide)⟩

/-- Two lanes of one register that are the same lane. -/
theorem lane_eq {α : Type} {X : Fin 128 → α} {i j : Nat} {hi : i < 128} {hj : j < 128} (h : i = j) : X ⟨i, hi⟩ = X ⟨j, hj⟩ := by
  subst h; rfl

/-- A choice between the two blocks of a pair is one column of the pair. -/
theorem sel_pair {A B : Fin 128 → EReal} {c : BitVec 1} {i j m : Nat} {hi : i < 128} {hj : j < 128}
    (h : (c = 1#1 ∧ i = m % 128 ∧ m % 256 < 128) ∨ (c = 0#1 ∧ j = m % 128 ∧ ¬ m % 256 < 128)) :
    Scalar.select c (A ⟨i, hi⟩) (B ⟨j, hj⟩) = pair A B m := by
  unfold pair
  rcases h with ⟨rfl, rfl, h⟩ | ⟨rfl, rfl, h⟩
  · rw [if_pos h]; rfl
  · rw [if_neg h]; rfl

/-- The same with the blocks in the other order. -/
theorem sel_pair' {A B : Fin 128 → EReal} {c : BitVec 1} {i j m : Nat} {hi : i < 128} {hj : j < 128}
    (h : (c = 0#1 ∧ i = m % 128 ∧ m % 256 < 128) ∨ (c = 1#1 ∧ j = m % 128 ∧ ¬ m % 256 < 128)) :
    Scalar.select c (B ⟨j, hj⟩) (A ⟨i, hi⟩) = pair A B m := by
  unfold pair
  rcases h with ⟨rfl, rfl, h⟩ | ⟨rfl, rfl, h⟩
  · rw [if_pos h]; rfl
  · rw [if_neg h]; rfl

/-- Lane `l` of the even word is column `2 l` of the pair. -/
theorem eW_apply (A B : BF) (r : Fin 32) (l : Fin 128) :
    (eW A B (ix2 r l) : EReal) = pair (fun j => A (ix2 r j)) (fun j => B (ix2 r j)) (2 * l.val) := by
  pointwise [eW, k0_pay10, k0_pay2, k0_pay6, k0_pay7, k0_pay8, k0_pay9, k0_pay4, k0_pay5, k0_pay3]
  refine sel_pair (A := fun j => A (ix2 r j)) (B := fun j => B (ix2 r j)) ?_
  revert l; decide +kernel

/-- Lane `l` of the odd word is column `2 l + 1` of the pair. -/
theorem oW_apply (A B : BF) (r : Fin 32) (l : Fin 128) :
    (oW A B (ix2 r l) : EReal) = pair (fun j => A (ix2 r j)) (fun j => B (ix2 r j)) (2 * l.val + 1) := by
  pointwise [oW, k0_pay11, k0_pay2, k0_pay6, k0_pay7, k0_pay8, k0_pay9, k0_pay4, k0_pay5, k0_pay3]
  refine sel_pair' (A := fun j => A (ix2 r j)) (B := fun j => B (ix2 r j)) ?_
  revert l; decide +kernel

/-- Lane `l` of the magnitudes' word. -/
theorem mxW_apply (A B : BF) (r : Fin 32) (l : Fin 128) :
    (mxW A B (ix2 r l) : EReal) = max (FloatOps.absf (F := Ideal) (φ := .f32) (eW A B (ix2 r l))) (FloatOps.absf (F := Ideal) (φ := .f32) (oW A B (ix2 r l))) := by
  pointwise [mxW, k0_pay12]
  rfl

/-! ## The groups' maxima -/

/-- The lane across bit `b`. -/
def xr (b : Nat) (l : Fin 128) : Fin 128 := ⟨(l.val ^^^ b) % 128, Nat.mod_lt _ (by decide)⟩

/-- One step of the groups' maximum, lane by lane. -/
def stF (b : Nat) (f f' : Fin 128 → EReal) (l : Fin 128) : EReal :=
  if l.val &&& b = 0 then max (f l) (f (xr b l)) else max (f' l) (f' (xr b l))

theorem sel_st {f f' : Fin 128 → EReal} {c c' : BitVec 1} {l : Fin 128} {b i : Nat} {hi : i < 128}
    (h : i = (l.val ^^^ b) % 128 ∧ ((c = 1#1 ∧ c' = 0#1 ∧ l.val &&& b = 0) ∨ (c = 0#1 ∧ c' = 1#1 ∧ ¬ l.val &&& b = 0))) :
    max (Scalar.select c (f l) (f' l)) (Scalar.select c' (f' ⟨i, hi⟩) (f ⟨i, hi⟩)) = stF b f f' l := by
  obtain ⟨rfl, h⟩ := h
  unfold stF xr
  rcases h with ⟨rfl, rfl, h⟩ | ⟨rfl, rfl, h⟩
  · rw [if_pos h]; rfl
  · rw [if_neg h]; rfl

theorem stW_apply (e : Fin 4) (f f' : FF) (r : Fin 32) (l : Fin 128) :
    (stW (BitVec.ofNat 32 (2 ^ e.val)) f f' (ix2 r l) : EReal) = stF (2 ^ e.val) (fun j => f (ix2 r j)) (fun j => f' (ix2 r j)) l := by
  pointwise [stW, laneW]
  refine sel_st (f := fun j => f (ix2 r j)) (f' := fun j => f' (ix2 r j)) ?_
  revert l; revert e; decide +kernel

/-- All steps of the groups' maximum, lane by lane. -/
def foldF (m0 m1 m2 m3 m4 m5 : Fin 128 → EReal) : Fin 128 → EReal :=
  let a := stF 2 (stF 1 m0 m1) (stF 1 m2 m3)
  let b := stF 1 m4 m5
  let d := stF 4 a (stF 2 b b)
  stF 8 d d

theorem foldW_apply (m0 m1 m2 m3 m4 m5 : FF) (r : Fin 32) (l : Fin 128) :
    (foldW m0 m1 m2 m3 m4 m5 (ix2 r l) : EReal) = foldF (fun j => m0 (ix2 r j)) (fun j => m1 (ix2 r j)) (fun j => m2 (ix2 r j))
      (fun j => m3 (ix2 r j)) (fun j => m4 (ix2 r j)) (fun j => m5 (ix2 r j)) l := by
  have h1 := fun (f f' : FF) => funext (stW_apply 0 f f' r)
  have h2 := fun (f f' : FF) => funext (stW_apply 1 f f' r)
  have h4 := fun (f f' : FF) => funext (stW_apply 2 f f' r)
  have h8 := fun (f f' : FF) => stW_apply 3 f f' r l
  unfold foldW foldF
  refine (h8 _ _).trans ?_
  refine (congrArg (fun z => stF 8 z z l) (h4 _ _)).trans ?_
  refine congrArg (fun z => stF 8 z z l) ?_
  refine congrArg₂ (stF 4) ((h2 _ _).trans ?_) ((h2 _ _).trans ?_)
  · exact congrArg₂ (stF 2) (h1 _ _) (h1 _ _)
  · exact congrArg (fun z => stF 2 z z) (h1 _ _)

/-- A lane's value with its partner's across bit `b`. -/
def both (b : Nat) (f : Fin 128 → EReal) (l : Fin 128) : EReal := max (f l) (f (xr b l))

theorem stF_pos {b : Nat} {f f' : Fin 128 → EReal} {l : Fin 128} (h : l.val &&& b = 0) : stF b f f' l = both b f l := if_pos h
theorem stF_neg {b : Nat} {f f' : Fin 128 → EReal} {l : Fin 128} (h : ¬ l.val &&& b = 0) : stF b f f' l = both b f' l := if_neg h
theorem stF_same {b : Nat} {f : Fin 128 → EReal} {l : Fin 128} : stF b f f l = both b f l := ite_self _

/-- The register whose maximum a lane carries. -/
def regOf (l : Fin 128) : Fin 6 := if l.val &&& 4 = 0 then ⟨l.val % 4, by omega⟩ else ⟨4 + l.val % 2, by omega⟩

/-- Each lane carries the maximum of one register over the lane's group. -/
theorem foldF_eq (M : Fin 6 → Fin 128 → EReal) (l : Fin 128) :
    foldF (M 0) (M 1) (M 2) (M 3) (M 4) (M 5) l = both 8 (both 4 (both 2 (both 1 (M (regOf l))))) l := by
  -- the first step, at a lane `m` whose number's low bit is that of `l`
  have s1 : ∀ (a b : Fin 6) (m : Fin 128), stF 1 (M a) (M b) m = both 1 (M (if m.val &&& 1 = 0 then a else b)) m := fun a b m => by
    by_cases h : m.val &&& 1 = 0
    · rw [stF_pos h, if_pos h]
    · rw [stF_neg h, if_neg h]
  have s2 : ∀ m : Fin 128, stF 2 (stF 1 (M 0) (M 1)) (stF 1 (M 2) (M 3)) m
      = both 2 (both 1 (M (if m.val &&& 2 = 0 then (if m.val &&& 1 = 0 then 0 else 1) else (if m.val &&& 1 = 0 then 2 else 3)))) m := fun m => by
    have hx : (xr 2 m).val &&& 1 = m.val &&& 1 := by revert m; decide +kernel
    by_cases h : m.val &&& 2 = 0
    · rw [stF_pos h, if_pos h]; unfold both; rw [s1, s1, hx]; rfl
    · rw [stF_neg h, if_neg h]; unfold both; rw [s1, s1, hx]; rfl
  have s2' : ∀ m : Fin 128, stF 2 (stF 1 (M 4) (M 5)) (stF 1 (M 4) (M 5)) m
      = both 2 (both 1 (M (if m.val &&& 1 = 0 then 4 else 5))) m := fun m => by
    have hx : (xr 2 m).val &&& 1 = m.val &&& 1 := by revert m; decide +kernel
    rw [stF_same]; unfold both; rw [s1, s1, hx]; rfl
  have s4 : ∀ m : Fin 128, stF 4 (stF 2 (stF 1 (M 0) (M 1)) (stF 1 (M 2) (M 3))) (stF 2 (stF 1 (M 4) (M 5)) (stF 1 (M 4) (M 5))) m
      = both 4 (both 2 (both 1 (M (regOf m)))) m := fun m => by
    by_cases h : m.val &&& 4 = 0
    · have e : (if m.val &&& 2 = 0 then (if m.val &&& 1 = 0 then 0 else 1) else (if m.val &&& 1 = 0 then 2 else 3)) = regOf m := by
        revert m; decide +kernel
      have e' : (if (xr 4 m).val &&& 2 = 0 then (if (xr 4 m).val &&& 1 = 0 then 0 else 1) else (if (xr 4 m).val &&& 1 = 0 then 2 else 3)) = regOf m := by
        revert m; decide +kernel
      rw [stF_pos h]; unfold both; rw [s2, s2, e, e']; rfl
    · have e : (if m.val &&& 1 = 0 then 4 else 5) = regOf m := by revert m; decide +kernel
      have e' : (if (xr 4 m).val &&& 1 = 0 then 4 else 5) = regOf m := by revert m; decide +kernel
      rw [stF_neg h]; unfold both; rw [s2', s2', e, e']; rfl
  have e8 : regOf (xr 8 l) = regOf l := by revert l; decide +kernel
  unfold foldF
  rw [stF_same]; unfold both; rw [s4, s4, e8]; rfl

/-- One step doubles the run of lanes whose values are bounded. -/
theorem both_step (b b2 : Nat) (f g : Fin 128 → EReal) (t : EReal)
    (hb : ∀ l m : Fin 128, m.val / b2 = l.val / b2 ↔ m.val / b = l.val / b ∨ m.val / b = (xr b l).val / b)
    (hg : ∀ l, g l ≤ t ↔ ∀ m : Fin 128, m.val / b = l.val / b → f m ≤ t) (l : Fin 128) :
    both b g l ≤ t ↔ ∀ m : Fin 128, m.val / b2 = l.val / b2 → f m ≤ t := by
  unfold both
  rw [max_le_iff, hg, hg]
  constructor
  · intro h m hm
    rcases (hb l m).mp hm with h' | h'
    · exact h.1 m h'
    · exact h.2 m h'
  · intro h
    exact ⟨fun m hm => h m ((hb l m).mpr (.inl hm)), fun m hm => h m ((hb l m).mpr (.inr hm))⟩

/-- The value that a lane carries bounds what the register holds in the lane's group. -/
theorem both_le (f : Fin 128 → EReal) (t : EReal) (l : Fin 128) :
    both 8 (both 4 (both 2 (both 1 f))) l ≤ t ↔ ∀ m : Fin 128, m.val / 16 = l.val / 16 → f m ≤ t := by
  have x1 : ∀ l : Fin 128, (xr 1 l).val / 1 = if l.val / 1 % 2 = 0 then l.val / 1 + 1 else l.val / 1 - 1 := by decide +kernel
  have x2 : ∀ l : Fin 128, (xr 2 l).val / 2 = if l.val / 2 % 2 = 0 then l.val / 2 + 1 else l.val / 2 - 1 := by decide +kernel
  have x4 : ∀ l : Fin 128, (xr 4 l).val / 4 = if l.val / 4 % 2 = 0 then l.val / 4 + 1 else l.val / 4 - 1 := by decide +kernel
  have x8 : ∀ l : Fin 128, (xr 8 l).val / 8 = if l.val / 8 % 2 = 0 then l.val / 8 + 1 else l.val / 8 - 1 := by decide +kernel
  refine both_step 8 16 f _ t (fun l m => by rw [x8]; split <;> omega) ?_ l
  refine both_step 4 8 f _ t (fun l m => by rw [x4]; split <;> omega) ?_
  refine both_step 2 4 f _ t (fun l m => by rw [x2]; split <;> omega) ?_
  refine both_step 1 2 f _ t (fun l m => by rw [x1]; split <;> omega) ?_
  intro l
  constructor
  · intro h m hm
    have e : m = l := Fin.ext (by simpa using hm)
    exact e ▸ h
  · intro h
    exact h l rfl

/-- The folded maximum at lane `16 g + p` bounds what register `p` holds in the sixteen lanes of group `g`. -/
theorem foldF_le (M : Fin 6 → Fin 128 → EReal) (t : EReal) (g : Fin 8) (p : Fin 6) :
    (foldF (M 0) (M 1) (M 2) (M 3) (M 4) (M 5) ⟨16 * g.val + p.val, by omega⟩ ≤ t
      ↔ ∀ j : Fin 16, M p ⟨16 * g.val + j.val, by omega⟩ ≤ t) := by
  have hr : ∀ (g : Fin 8) (p : Fin 6), regOf ⟨16 * g.val + p.val, by omega⟩ = p := by decide +kernel
  rw [foldF_eq, hr, both_le]
  constructor
  · intro h j
    exact h _ (by show (16 * g.val + j.val) / 16 = (16 * g.val + p.val) / 16; omega)
  · intro h m hm
    replace hm : m.val / 16 = (16 * g.val + p.val) / 16 := hm
    have e : (⟨16 * g.val + m.val % 16, by omega⟩ : Fin 128) = m := Fin.ext (by show 16 * g.val + m.val % 16 = m.val; omega)
    exact e ▸ h ⟨m.val % 16, by omega⟩

/-! ## The scale's exponent -/

/-- One step of the search for the exponent of `a`. -/
def seS (a : EReal) (b t : BitVec 32) : BitVec 32 :=
  if Ideal.ofBits .f32 (IntOp.shli ArithUnit.vector (IntOp.addi t b) 23#32) ≤ a then IntOp.addi t b else t
/-- The search: the greatest exponent whose power of two does not exceed `a`. -/
def tS (a : EReal) : BitVec 32 :=
  seS a 1#32 (seS a 2#32 (seS a 4#32 (seS a 8#32 (seS a 16#32 (seS a 32#32 (seS a 64#32 (seS a 128#32 0#32)))))))
/-- The bits of the scale. -/
def ebS (a : EReal) : BitVec 32 :=
  IntOp.shli ArithUnit.vector (Scalar.select (IntOp.cmpi CmpIPredicate.eq (tS a) 0#32) 127#32 (IntOp.addi (tS a) 1#32)) 23#32
/-- The scale of a group whose maximum times 1/448 is `a`. -/
def scS (a : EReal) : EReal := Ideal.ofBits .f32 (ebS a)
/-- The scale's reciprocal. -/
def inS (a : EReal) : EReal := Ideal.ofBits .f32 (IntOp.subi 2130706432#32 (ebS a))

theorem aW_apply (m : FF) (r : Fin 32) (l : Fin 128) : (aW m (ix2 r l) : EReal) = m (ix2 r l) * Ideal.ofBits .f32 0x3B124925#32 := by
  pointwise [aW]

theorem seW_apply (a : FF) (b : BitVec 32) (t : IVec S32x128 32) (r : Fin 32) (l : Fin 128) :
    seW a b t (ix2 r l) = seS (a (ix2 r l)) b (t (ix2 r l)) := by
  pointwise [seW]
  rfl

theorem eb_apply (a : FF) (r : Fin 32) (l : Fin 128) : k0_pay62 a (tW a) (ix2 r l) = ebS (a (ix2 r l)) := by
  have h : k0_pay62 a (tW a) = shli (select (cmpi .eq (seW a 1#32 (seW a 2#32 (seW a 4#32 (tW a)))) (broadcast S32x128 0#32)) (broadcast S32x128 127#32)
      (addi (seW a 1#32 (seW a 2#32 (seW a 4#32 (tW a)))) (broadcast S32x128 1#32))) (broadcast S32x128 23#32) := rfl
  rw [h]
  pointwise [ebS]
  simp only [seW_apply, tW, tS]
  rfl

theorem sW_apply (a : FF) (r : Fin 32) (l : Fin 128) : (sW a (ix2 r l) : EReal) = scS (a (ix2 r l)) := by
  pointwise [sW, k0_pay63]
  rw [eb_apply]; rfl

theorem iW_apply (a : FF) (r : Fin 32) (l : Fin 128) : (iW a (ix2 r l) : EReal) = inS (a (ix2 r l)) := by
  pointwise [iW, k0_pay64]
  rw [eb_apply]; rfl

/-! ## The codes -/

/-- The clip to the fp8 range. -/
def clS (v : EReal) : EReal := min (Ideal.ofBits .f32 0x43E00000#32) (max (Ideal.ofBits .f32 0xC3E00000#32) v)

theorem cW_apply (b : Fin 6) (e inv : FF) (r : Fin 32) (l : Fin 128) :
    (cW (BitVec.ofNat 32 b.val) e inv (ix2 r l) : EReal) = clS (e (ix2 r l) * inv (ix2 r ⟨16 * (l.val / 16) + b.val, by omega⟩)) := by
  pointwise [cW, k0_pay77, k0_pay76, bW, laneW]
  unfold clS
  refine congrArg (fun z => min _ (max _ (e (ix2 r l) * z))) (lane_eq (X := fun j => (inv (ix2 r j) : EReal)) ?_)
  revert l; revert b; decide +kernel

theorem xW_apply (b : Fin 6) (e s inv : FF) (r : Fin 32) (l : Fin 128) :
    (xW (BitVec.ofNat 32 b.val) e s inv (ix2 r l) : EReal)
      = cW (BitVec.ofNat 32 b.val) e inv (ix2 r l) * s (ix2 r ⟨16 * (l.val / 16) + b.val, by omega⟩) := by
  rw [show cW (BitVec.ofNat 32 b.val) e inv = k0_pay77 e inv (bW (BitVec.ofNat 32 b.val)) from rfl]
  pointwise [xW, k0_pay78, k0_pay75, bW, laneW]
  refine congrArg (fun z => _ * z) (lane_eq (X := fun j => (s (ix2 r j) : EReal)) ?_)
  revert l; revert b; decide +kernel

theorem o_cW (b : BitVec 32) (o inv : FF) : k0_pay80 o inv (bW b) = cW b o inv := rfl

/-- A choice between the even and the odd codes, by the column's parity. -/
theorem sel_par {X Y : Fin 128 → EReal} {c : BitVec 1} {i j l m : Nat} {hi : i < 128} {hj : j < 128} {hm : m < 128}
    (h : (c = 1#1 ∧ i = m ∧ l % 2 = 0) ∨ (c = 0#1 ∧ j = m ∧ ¬ l % 2 = 0)) :
    Scalar.select c (X ⟨i, hi⟩) (Y ⟨j, hj⟩) = if l % 2 = 0 then X ⟨m, hm⟩ else Y ⟨m, hm⟩ := by
  rcases h with ⟨rfl, rfl, h⟩ | ⟨rfl, rfl, h⟩
  · rw [if_pos h]; rfl
  · rw [if_neg h]; rfl

/-- The same with the choice's arms in the other order. -/
theorem sel_par' {X Y : Fin 128 → EReal} {c : BitVec 1} {i j l m : Nat} {hi : i < 128} {hj : j < 128} {hm : m < 128}
    (h : (c = 0#1 ∧ i = m ∧ l % 2 = 0) ∨ (c = 1#1 ∧ j = m ∧ ¬ l % 2 = 0)) :
    Scalar.select c (Y ⟨j, hj⟩) (X ⟨i, hi⟩) = if l % 2 = 0 then X ⟨m, hm⟩ else Y ⟨m, hm⟩ := by
  rcases h with ⟨rfl, rfl, h⟩ | ⟨rfl, rfl, h⟩
  · rw [if_pos h]; rfl
  · rw [if_neg h]; rfl

theorem c1W_apply (b : BitVec 32) (e o inv : FF) (r : Fin 32) (l : Fin 128) :
    (c1W b e o inv (ix2 r l) : EReal) = if l.val % 2 = 0 then (cW b e inv (ix2 r ⟨l.val / 2, by omega⟩) : EReal)
      else cW b o inv (ix2 r ⟨l.val / 2, by omega⟩) := by
  pointwise [c1W, k0_pay84, k0_pay83, k0_pay79, k0_pay82, k0_pay68, k0_pay70, k0_pay69]
  refine sel_par (X := fun j => (cW b e inv (ix2 r j) : EReal)) (Y := fun j => (cW b o inv (ix2 r j) : EReal)) ?_
  revert l; decide +kernel

theorem c2W_apply (b : BitVec 32) (e o inv : FF) (r : Fin 32) (l : Fin 128) :
    (c2W b e o inv (ix2 r l) : EReal) = if l.val % 2 = 0 then (cW b e inv (ix2 r ⟨64 + l.val / 2, by omega⟩) : EReal)
      else cW b o inv (ix2 r ⟨64 + l.val / 2, by omega⟩) := by
  pointwise [c2W, k0_pay85, k0_pay79, k0_pay82, k0_pay68, k0_pay71, k0_pay69]
  refine sel_par' (X := fun j => (cW b e inv (ix2 r j) : EReal)) (Y := fun j => (cW b o inv (ix2 r j) : EReal)) ?_
  revert l; decide +kernel

theorem scW_apply (s : FF) (r : Fin 32) (G : Fin 48) :
    (scW s (ix2 r G) : EReal) = s (ix2 r ⟨16 * (G.val % 8) + G.val / 8, by omega⟩) := by
  pointwise [scW, k0_pay67, k0_pay65, k0_pay66, laneW]
  refine lane_eq (X := fun j => (s (ix2 r j) : EReal)) ?_
  revert G; decide +kernel

/-! ## What the quantiser leaves -/

/-- The greatest magnitude of a group of 32 activations. -/
def gmx (x : Vec Ideal S1152x1536 .bf16) (R : Fin 1152) (G : Fin 48) : EReal :=
  Finset.univ.sup fun i : Fin 32 => max (x (ix2 R ⟨32 * G.val + i.val, by omega⟩) : EReal) (-(x (ix2 R ⟨32 * G.val + i.val, by omega⟩) : EReal))

/-- The greatest magnitude times 1/448. -/
def grA (x : Vec Ideal S1152x1536 .bf16) (R : Fin 1152) (G : Fin 48) : EReal := gmx x R G * Ideal.ofBits .f32 0x3B124925#32

/-- The scale of each group. -/
def scaleAt (x : Vec Ideal S1152x1536 .bf16) (R : Fin 1152) (G : Fin 48) : EReal := scS (grA x R G)
/-- The code of each activation. -/
def codeAt (x : Vec Ideal S1152x1536 .bf16) (R : Fin 1152) (C : Fin 1536) : EReal :=
  clS ((x (ix2 R C) : EReal) * inS (grA x R ⟨C.val / 32, by omega⟩))
/-- The scales' array. -/
def scaleSpec (x : Vec Ideal S1152x1536 .bf16) : Vec Ideal S1152x48 .f32 := fun y => scaleAt x (y 0) (y 1)
/-- The codes' array. -/
def codesSpec (x : Vec Ideal S1152x1536 .bf16) : Vec Ideal S1152x1536 .fp8e4m3 := fun y => codeAt x (y 0) (y 1)
/-- The column of the activations that column `c` of the scratch holds: the even columns first, then the odd ones. -/
def natCol (c : Fin 1536) : Fin 1536 := ⟨2 * (c.val % 768) + c.val / 768, by omega⟩
/-- The quantised activations, in the kernel's column order. -/
def xsSpec (x : Vec Ideal S1152x1536 .bf16) : Vec Ideal S1152x1536 .bf16 := fun y =>
  (codeAt x (y 0) (natCol (y 1)) * scaleAt x (y 0) ⟨(natCol (y 1)).val / 32, by omega⟩ : EReal)

theorem xsSpec_eq (x : Vec Ideal S1152x1536 .bf16) (y : S1152x1536.Idx) (R : Fin 1152) (C : Fin 1536)
    (h0 : (y 0).val = R.val) (h1 : 2 * ((y 1).val % 768) + (y 1).val / 768 = C.val) :
    (xsSpec x y : EReal) = codeAt x R C * scaleAt x R ⟨C.val / 32, by omega⟩ := by
  have e0 : y 0 = R := Fin.ext h0
  have e1 : natCol (y 1) = C := Fin.ext h1
  subst e0 e1
  rfl

theorem codesSpec_eq (x : Vec Ideal S1152x1536 .bf16) (y : S1152x1536.Idx) (R : Fin 1152) (C : Fin 1536)
    (h0 : (y 0).val = R.val) (h1 : (y 1).val = C.val) : (codesSpec x y : EReal) = codeAt x R C := by
  have e0 : y 0 = R := Fin.ext h0
  have e1 : y 1 = C := Fin.ext h1
  subst e0 e1
  rfl

theorem scaleSpec_eq (x : Vec Ideal S1152x1536 .bf16) (y : S1152x48.Idx) (R : Fin 1152) (C : Fin 48)
    (h0 : (y 0).val = R.val) (h1 : (y 1).val = C.val) : (scaleSpec x y : EReal) = scaleAt x R C := by
  have e0 : y 0 = R := Fin.ext h0
  have e1 : y 1 = C := Fin.ext h1
  subst e0 e1
  rfl

section Trip

/-- Twelve blocks of 128 columns of 32 rows of the activations, from row `32 k`. -/
def IsBlocks (x : Vec Ideal S1152x1536 .bf16) (k : Fin 36) (B : Fin 12 → BF) : Prop :=
  ∀ (n : Fin 12) (r : Fin 32) (l : Fin 128), B n (ix2 r l) = x (ix2 ⟨32 * k.val + r.val, by omega⟩ ⟨128 * n.val + l.val, by omega⟩)

/-- The even columns of pair `p`. -/
def eB (B : Fin 12 → BF) (p : Fin 6) : FF := eW (B ⟨2 * p.val, by omega⟩) (B ⟨2 * p.val + 1, by omega⟩)
/-- The odd columns of pair `p`. -/
def oB (B : Fin 12 → BF) (p : Fin 6) : FF := oW (B ⟨2 * p.val, by omega⟩) (B ⟨2 * p.val + 1, by omega⟩)
/-- The magnitudes of pair `p`. -/
def mB (B : Fin 12 → BF) (p : Fin 6) : FF := mxW (B ⟨2 * p.val, by omega⟩) (B ⟨2 * p.val + 1, by omega⟩)
/-- The groups' maxima times 1/448. -/
def aB (B : Fin 12 → BF) : FF := aW (foldW (mB B 0) (mB B 1) (mB B 2) (mB B 3) (mB B 4) (mB B 5))

variable {x : Vec Ideal S1152x1536 .bf16} {k : Fin 36} {B : Fin 12 → BF}

/-- A column of a pair is a column of the activations. -/
theorem pair_blocks (hB : IsBlocks x k B) (p : Fin 6) (r : Fin 32) (c : Nat) (hc : c < 256) :
    pair (fun j => B ⟨2 * p.val, by omega⟩ (ix2 r j)) (fun j => B ⟨2 * p.val + 1, by omega⟩ (ix2 r j)) c
      = x (ix2 ⟨32 * k.val + r.val, by omega⟩ ⟨256 * p.val + c, by omega⟩) := by
  unfold pair
  have e : c % 256 = c := Nat.mod_eq_of_lt hc
  rw [e]
  split
  · refine (hB _ r _).trans ?_
    refine congrArg (fun z => x (ix2 _ z)) (Fin.ext ?_)
    show 128 * (2 * p.val) + c % 128 = 256 * p.val + c; omega
  · refine (hB _ r _).trans ?_
    refine congrArg (fun z => x (ix2 _ z)) (Fin.ext ?_)
    show 128 * (2 * p.val + 1) + c % 128 = 256 * p.val + c; omega

theorem eB_apply (hB : IsBlocks x k B) (p : Fin 6) (r : Fin 32) (l : Fin 128) :
    (eB B p (ix2 r l) : EReal) = x (ix2 ⟨32 * k.val + r.val, by omega⟩ ⟨256 * p.val + 2 * l.val, by omega⟩) :=
  (eW_apply _ _ r l).trans (pair_blocks hB p r _ (by omega))

theorem oB_apply (hB : IsBlocks x k B) (p : Fin 6) (r : Fin 32) (l : Fin 128) :
    (oB B p (ix2 r l) : EReal) = x (ix2 ⟨32 * k.val + r.val, by omega⟩ ⟨256 * p.val + (2 * l.val + 1), by omega⟩) :=
  (oW_apply _ _ r l).trans (pair_blocks hB p r _ (by omega))

theorem mB_apply (hB : IsBlocks x k B) (p : Fin 6) (r : Fin 32) (l : Fin 128) :
    (mB B p (ix2 r l) : EReal) = max (FloatOps.absf (F := Ideal) (φ := .f32) (eB B p (ix2 r l))) (FloatOps.absf (F := Ideal) (φ := .f32) (oB B p (ix2 r l))) :=
  mxW_apply _ _ r l

/-- Lane `16 g + p` holds the maximum of group `8 p + g`. -/
theorem aB_apply (hB : IsBlocks x k B) (r : Fin 32) (g : Fin 8) (p : Fin 6) :
    (aB B (ix2 r ⟨16 * g.val + p.val, by omega⟩) : EReal) = grA x ⟨32 * k.val + r.val, by omega⟩ ⟨8 * p.val + g.val, by omega⟩ := by
  unfold aB grA
  rw [aW_apply, foldW_apply]
  refine congrArg (· * Ideal.ofBits .f32 0x3B124925#32) ?_
  refine eq_of_forall_ge_iff fun t => ?_
  rw [foldF_le (fun p j => (mB B p (ix2 r j) : EReal)) t g p]
  unfold gmx
  rw [Finset.sup_le_iff]
  constructor
  · intro h i _
    have hj := h ⟨i.val / 2, by omega⟩
    rw [mB_apply hB, max_le_iff] at hj
    rcases Nat.mod_two_eq_zero_or_one i.val with hi | hi
    · refine le_trans (le_of_eq ?_) hj.1
      rw [Ideal.absf_def, eB_apply hB]
      refine congrArg (fun z => max (x (ix2 _ z) : EReal) (-(x (ix2 _ z) : EReal))) (Fin.ext ?_)
      show 32 * (8 * p.val + g.val) + i.val = 256 * p.val + 2 * (16 * g.val + i.val / 2); omega
    · refine le_trans (le_of_eq ?_) hj.2
      rw [Ideal.absf_def, oB_apply hB]
      refine congrArg (fun z => max (x (ix2 _ z) : EReal) (-(x (ix2 _ z) : EReal))) (Fin.ext ?_)
      show 32 * (8 * p.val + g.val) + i.val = 256 * p.val + (2 * (16 * g.val + i.val / 2) + 1); omega
  · intro h j
    rw [mB_apply hB, max_le_iff]
    constructor
    · refine le_trans (le_of_eq ?_) (h ⟨2 * j.val, by omega⟩ (Finset.mem_univ _))
      rw [Ideal.absf_def, eB_apply hB]
      refine congrArg (fun z => max (x (ix2 _ z) : EReal) (-(x (ix2 _ z) : EReal))) (Fin.ext ?_)
      show 256 * p.val + 2 * (16 * g.val + j.val) = 32 * (8 * p.val + g.val) + 2 * j.val; omega
    · refine le_trans (le_of_eq ?_) (h ⟨2 * j.val + 1, by omega⟩ (Finset.mem_univ _))
      rw [Ideal.absf_def, oB_apply hB]
      refine congrArg (fun z => max (x (ix2 _ z) : EReal) (-(x (ix2 _ z) : EReal))) (Fin.ext ?_)
      show 256 * p.val + (2 * (16 * g.val + j.val) + 1) = 32 * (8 * p.val + g.val) + (2 * j.val + 1); omega

/-- The scale that a lane's codes use. -/
theorem sB_apply (hB : IsBlocks x k B) (p : Fin 6) (r : Fin 32) (l : Fin 128) :
    (sW (aB B) (ix2 r ⟨16 * (l.val / 16) + p.val, by omega⟩) : EReal)
      = scS (grA x ⟨32 * k.val + r.val, by omega⟩ ⟨8 * p.val + l.val / 16, by omega⟩) := by
  rw [sW_apply]
  exact congrArg scS (aB_apply hB r ⟨l.val / 16, by omega⟩ p)

theorem iB_apply (hB : IsBlocks x k B) (p : Fin 6) (r : Fin 32) (l : Fin 128) :
    (iW (aB B) (ix2 r ⟨16 * (l.val / 16) + p.val, by omega⟩) : EReal)
      = inS (grA x ⟨32 * k.val + r.val, by omega⟩ ⟨8 * p.val + l.val / 16, by omega⟩) := by
  rw [iW_apply]
  exact congrArg inS (aB_apply hB r ⟨l.val / 16, by omega⟩ p)

/-- A code of an even column. -/
theorem ceB_apply (hB : IsBlocks x k B) (p : Fin 6) (r : Fin 32) (l : Fin 128) :
    (cW (BitVec.ofNat 32 p.val) (eB B p) (iW (aB B)) (ix2 r l) : EReal)
      = codeAt x ⟨32 * k.val + r.val, by omega⟩ ⟨256 * p.val + 2 * l.val, by omega⟩ := by
  rw [cW_apply, eB_apply hB, iB_apply hB]
  unfold codeAt
  refine congrArg (fun G => clS ((x (ix2 _ _) : EReal) * inS (grA x _ G))) (Fin.ext ?_)
  show 8 * p.val + l.val / 16 = (256 * p.val + 2 * l.val) / 32; omega

/-- A code of an odd column. -/
theorem coB_apply (hB : IsBlocks x k B) (p : Fin 6) (r : Fin 32) (l : Fin 128) :
    (cW (BitVec.ofNat 32 p.val) (oB B p) (iW (aB B)) (ix2 r l) : EReal)
      = codeAt x ⟨32 * k.val + r.val, by omega⟩ ⟨256 * p.val + (2 * l.val + 1), by omega⟩ := by
  rw [cW_apply, oB_apply hB, iB_apply hB]
  unfold codeAt
  refine congrArg (fun G => clS ((x (ix2 _ _) : EReal) * inS (grA x _ G))) (Fin.ext ?_)
  show 8 * p.val + l.val / 16 = (256 * p.val + (2 * l.val + 1)) / 32; omega

/-- The scratch's even half: codes times scales. -/
theorem xe_trip (hB : IsBlocks x k B) (p : Fin 6) (r : Fin 32) (l : Fin 128) (y : S1152x1536.Idx)
    (h0 : (y 0).val = 32 * k.val + r.val) (h1 : (y 1).val = 128 * p.val + l.val) :
    (xW (BitVec.ofNat 32 p.val) (eB B p) (sW (aB B)) (iW (aB B)) (ix2 r l) : EReal) = xsSpec x y := by
  rw [xW_apply, ceB_apply hB, sB_apply hB]
  rw [xsSpec_eq x y ⟨32 * k.val + r.val, by omega⟩ ⟨256 * p.val + 2 * l.val, by omega⟩ h0 (by rw [h1]; show _ = 256 * p.val + 2 * l.val; omega)]
  unfold scaleAt
  refine congrArg (fun G => codeAt x _ _ * scS (grA x _ G)) (Fin.ext ?_)
  show 8 * p.val + l.val / 16 = (256 * p.val + 2 * l.val) / 32; omega

/-- The scratch's odd half. -/
theorem xo_trip (hB : IsBlocks x k B) (p : Fin 6) (r : Fin 32) (l : Fin 128) (y : S1152x1536.Idx)
    (h0 : (y 0).val = 32 * k.val + r.val) (h1 : (y 1).val = 768 + 128 * p.val + l.val) :
    (xW (BitVec.ofNat 32 p.val) (oB B p) (sW (aB B)) (iW (aB B)) (ix2 r l) : EReal) = xsSpec x y := by
  rw [xW_apply, coB_apply hB, sB_apply hB]
  rw [xsSpec_eq x y ⟨32 * k.val + r.val, by omega⟩ ⟨256 * p.val + (2 * l.val + 1), by omega⟩ h0 (by rw [h1]; show _ = 256 * p.val + (2 * l.val + 1); omega)]
  unfold scaleAt
  refine congrArg (fun G => codeAt x _ _ * scS (grA x _ G)) (Fin.ext ?_)
  show 8 * p.val + l.val / 16 = (256 * p.val + (2 * l.val + 1)) / 32; omega

/-- The codes of a pair's first block. -/
theorem c1_trip (hB : IsBlocks x k B) (p : Fin 6) (r : Fin 32) (l : Fin 128) (y : S1152x1536.Idx)
    (h0 : (y 0).val = 32 * k.val + r.val) (h1 : (y 1).val = 256 * p.val + l.val) :
    (c1W (BitVec.ofNat 32 p.val) (eB B p) (oB B p) (iW (aB B)) (ix2 r l) : EReal) = codesSpec x y := by
  rw [c1W_apply, ceB_apply hB, coB_apply hB]
  rw [codesSpec_eq x y ⟨32 * k.val + r.val, by omega⟩ ⟨256 * p.val + l.val, by omega⟩ h0 h1]
  split
  · refine congrArg (codeAt x _) (Fin.ext ?_)
    show 256 * p.val + 2 * (l.val / 2) = 256 * p.val + l.val; omega
  · refine congrArg (codeAt x _) (Fin.ext ?_)
    show 256 * p.val + (2 * (l.val / 2) + 1) = 256 * p.val + l.val; omega

/-- The codes of a pair's second block. -/
theorem c2_trip (hB : IsBlocks x k B) (p : Fin 6) (r : Fin 32) (l : Fin 128) (y : S1152x1536.Idx)
    (h0 : (y 0).val = 32 * k.val + r.val) (h1 : (y 1).val = 256 * p.val + 128 + l.val) :
    (c2W (BitVec.ofNat 32 p.val) (eB B p) (oB B p) (iW (aB B)) (ix2 r l) : EReal) = codesSpec x y := by
  rw [c2W_apply, ceB_apply hB, coB_apply hB]
  rw [codesSpec_eq x y ⟨32 * k.val + r.val, by omega⟩ ⟨256 * p.val + 128 + l.val, by omega⟩ h0 h1]
  split
  · refine congrArg (codeAt x _) (Fin.ext ?_)
    show 256 * p.val + 2 * (64 + l.val / 2) = 256 * p.val + 128 + l.val; omega
  · refine congrArg (codeAt x _) (Fin.ext ?_)
    show 256 * p.val + (2 * (64 + l.val / 2) + 1) = 256 * p.val + 128 + l.val; omega

/-- The scales of a trip's rows. -/
theorem sc_trip (hB : IsBlocks x k B) (r : Fin 32) (G : Fin 48) (y : S1152x48.Idx)
    (h0 : (y 0).val = 32 * k.val + r.val) (h1 : (y 1).val = G.val) :
    (scW (sW (aB B)) (ix2 r G) : EReal) = scaleSpec x y := by
  rw [scW_apply, sW_apply]
  refine (congrArg scS (aB_apply hB r ⟨G.val % 8, by omega⟩ ⟨G.val / 8, by omega⟩)).trans ?_
  rw [scaleSpec_eq x y ⟨32 * k.val + r.val, by omega⟩ G h0 h1]
  unfold scaleAt
  refine congrArg (fun z => scS (grA x _ z)) (Fin.ext ?_)
  show 8 * (G.val / 8) + G.val % 8 = G.val; omega

end Trip

end Cert.KernelIdeal.Gen

end
-- ==== Proof.Ideal.Expo.lean ====
module

public import proofs.«01_k».proof.Proof.Ideal.Quant

@[expose] public section

/-! The exponent: the binary search over exponent fields finds the integer part of the logarithm, over the extended reals. -/

set_option maxRecDepth 16384

noncomputable section

namespace Cert.KernelIdeal.Gen

open Idealize.ShloMosaic Idealize.ShloMosaic.TcCoe Idealize.ShloMosaic.Tactic

/-- The float32 whose exponent field is `t`, its other bits zero. -/
def pw (t : ℕ) : EReal := Ideal.ofBits .f32 (BitVec.ofNat 32 (t * 8388608))

theorem pw_bits : ∀ t : Fin 256, ((BitVec.ofNat 32 (t.val * 8388608)).extractLsb' 31 1 == 1#1) = false
    ∧ ((BitVec.ofNat 32 (t.val * 8388608)).extractLsb' 23 8).toNat = t.val
    ∧ ((BitVec.ofNat 32 (t.val * 8388608)).extractLsb' 0 23).toNat = 0 := by decide +kernel

theorem pw_zero : pw 0 = 0 := by
  unfold pw; simp [Ideal.ofBits, Ideal.ieee]

/-- It is a power of two, the field being neither zero nor all ones. -/
theorem pw_eq (t : ℕ) (h1 : 1 ≤ t) (h2 : t ≤ 254) : pw t = (((2 : ℝ) ^ ((t : ℤ) - 127) : ℝ) : EReal) := by
  obtain ⟨b1, b2, b3⟩ := pw_bits ⟨t, by omega⟩
  dsimp only at b1 b2 b3
  show Ideal.ieee 8 23 (BitVec.ofNat 32 (t * 8388608)) = _
  unfold Ideal.ieee
  dsimp only
  rw [show (8 : ℕ) + 23 = 31 from rfl, b1, b2, b3]
  rw [if_neg (by norm_num; omega), if_neg (by omega)]
  congr 1
  push_cast
  rw [show ((t : ℤ) - 127 - 23) = ((t : ℤ) - 127) + (-23) from by ring,
    zpow_add₀ (by norm_num : (2 : ℝ) ≠ 0)]
  norm_num
  ring

theorem pw_top : pw 255 = ⊤ := by
  unfold pw; simp [Ideal.ofBits, Ideal.ieee]

/-- One step of the search, on the field as a number. -/
def seN (a : EReal) (b t : ℕ) : ℕ := if pw (t + b) ≤ a then t + b else t

theorem shl_field : ∀ t : Fin 256, IntOp.shli ArithUnit.vector (BitVec.ofNat 32 t.val) 23#32 = BitVec.ofNat 32 (t.val * 8388608) := by
  decide +kernel

theorem seS_eq (a : EReal) (b t : ℕ) (h : t + b < 256) : seS a (BitVec.ofNat 32 b) (BitVec.ofNat 32 t) = BitVec.ofNat 32 (seN a b t) := by
  have e : IntOp.addi (BitVec.ofNat 32 t) (BitVec.ofNat 32 b) = BitVec.ofNat 32 (t + b) := (BitVec.ofNat_add t b).symm
  unfold seS seN
  rw [e, shl_field ⟨t + b, h⟩]
  show (if pw (t + b) ≤ a then _ else _) = _
  split <;> rfl

/-- What holds when the search has narrowed the field to `w` values from `t` on. -/
def Nar (a : EReal) (t w : ℕ) : Prop := t + w ≤ 256 ∧ pw t ≤ a ∧ (t + w = 256 ∨ a < pw (t + w))

theorem Nar.step {a : EReal} {t b : ℕ} (h : Nar a t (b + b)) : Nar a (seN a b t) b := by
  obtain ⟨h1, h2, h3⟩ := h
  unfold seN
  split
  · rename_i hc
    exact ⟨by omega, hc, by rw [Nat.add_assoc]; exact h3⟩
  · rename_i hc
    exact ⟨by omega, h2, Or.inr (lt_of_not_ge hc)⟩

/-- The search finds the field of a value at least zero. -/
theorem tS_spec (a : EReal) (h0 : 0 ≤ a) : ∃ t : ℕ, tS a = BitVec.ofNat 32 t ∧ Nar a t 1 := by
  have n0 : Nar a 0 (128 + 128) := ⟨by norm_num, by rw [pw_zero]; exact h0, Or.inl rfl⟩
  have n1 : Nar a _ (64 + 64) := n0.step
  have n2 : Nar a _ (32 + 32) := n1.step
  have n3 : Nar a _ (16 + 16) := n2.step
  have n4 : Nar a _ (8 + 8) := n3.step
  have n5 : Nar a _ (4 + 4) := n4.step
  have n6 : Nar a _ (2 + 2) := n5.step
  have n7 : Nar a _ (1 + 1) := n6.step
  have n8 := n7.step
  refine ⟨_, ?_, n8⟩
  unfold tS
  rw [show (0#32 : BitVec 32) = BitVec.ofNat 32 0 from rfl]
  rw [show (128#32 : BitVec 32) = BitVec.ofNat 32 128 from rfl, seS_eq a 128 0 (by have := n0.1; omega)]
  rw [show (64#32 : BitVec 32) = BitVec.ofNat 32 64 from rfl, seS_eq a 64 _ (by have := n1.1; omega)]
  rw [show (32#32 : BitVec 32) = BitVec.ofNat 32 32 from rfl, seS_eq a 32 _ (by have := n2.1; omega)]
  rw [show (16#32 : BitVec 32) = BitVec.ofNat 32 16 from rfl, seS_eq a 16 _ (by have := n3.1; omega)]
  rw [show (8#32 : BitVec 32) = BitVec.ofNat 32 8 from rfl, seS_eq a 8 _ (by have := n4.1; omega)]
  rw [show (4#32 : BitVec 32) = BitVec.ofNat 32 4 from rfl, seS_eq a 4 _ (by have := n5.1; omega)]
  rw [show (2#32 : BitVec 32) = BitVec.ofNat 32 2 from rfl, seS_eq a 2 _ (by have := n6.1; omega)]
  rw [show (1#32 : BitVec 32) = BitVec.ofNat 32 1 from rfl, seS_eq a 1 _ (by have := n7.1; omega)]

theorem eb_field : ∀ t : Fin 254, IntOp.shli ArithUnit.vector (Scalar.select (IntOp.cmpi CmpIPredicate.eq (BitVec.ofNat 32 t.val) 0#32) 127#32
      (IntOp.addi (BitVec.ofNat 32 t.val) 1#32)) 23#32 = BitVec.ofNat 32 ((if t.val = 0 then 127 else t.val + 1) * 8388608)
    ∧ IntOp.subi 2130706432#32 (BitVec.ofNat 32 ((if t.val = 0 then 127 else t.val + 1) * 8388608))
      = BitVec.ofNat 32 ((254 - if t.val = 0 then 127 else t.val + 1) * 8388608) := by
  decide +kernel

/-- The scale and its reciprocal, from the field. -/
theorem scS_inS (a : EReal) (t : ℕ) (ht : t < 254) (h : tS a = BitVec.ofNat 32 t) :
    scS a = pw (if t = 0 then 127 else t + 1) ∧ inS a = pw (254 - if t = 0 then 127 else t + 1) := by
  obtain ⟨e1, e2⟩ := eb_field ⟨t, ht⟩
  dsimp only at e1 e2
  have eb : ebS a = BitVec.ofNat 32 ((if t = 0 then 127 else t + 1) * 8388608) := by unfold ebS; rw [h]; exact e1
  constructor
  · unfold scS; rw [eb]; rfl
  · unfold inS; rw [eb, e2]; rfl

/-- The exponent as the reference states it: zero of a value below the least normal float, otherwise the integer part of
    the logarithm to base two, and one. -/
def flR (a : EReal) : EReal := if a < Ideal.ofBits .f32 0x00800000#32 then 0 else a
def eR (a : EReal) : EReal := if flR a = 0 then 0 else
  Ideal.liftRound Int.floor (Ideal.div (Ideal.log (flR a)) (Ideal.log (Ideal.ofBits .f32 0x40000000#32))) + 1

theorem two_eq : Ideal.ofBits .f32 0x40000000#32 = ((2 : ℝ) : EReal) := by
  have := pw_eq 128 (by norm_num) (by norm_num)
  rw [show ((128 : ℕ) : ℤ) - 127 = 1 from by norm_num, zpow_one] at this
  exact this

theorem log_two_eq : Ideal.log (Ideal.ofBits .f32 0x40000000#32) = ((Real.log 2 : ℝ) : EReal) := by
  rw [two_eq, Ideal.log_coe, if_neg (by norm_num)]

theorem exp_mul_log (n : ℤ) : Ideal.exp ((((n : ℝ) : ℝ) : EReal) * ((Real.log 2 : ℝ) : EReal)) = (((2 : ℝ) ^ n : ℝ) : EReal) := by
  rw [← EReal.coe_mul, Ideal.exp_coe, mul_comm, Real.exp_mul, Real.exp_log (by norm_num), Real.rpow_intCast]

/-- Of a value at least zero and below two to the 126th, the reference's scale and reciprocal are the kernel's. -/
theorem scale_eq (r : ℝ) (h0 : 0 ≤ r) (h1 : r < (2 : ℝ) ^ (120 : ℤ)) :
    Ideal.exp (eR (r : EReal) * Ideal.log (Ideal.ofBits .f32 0x40000000#32)) = scS (r : EReal)
    ∧ Ideal.exp (-eR (r : EReal) * Ideal.log (Ideal.ofBits .f32 0x40000000#32)) = inS (r : EReal) := by
  obtain ⟨t, ht, n1, n2, n3⟩ := tS_spec (r : EReal) (by exact_mod_cast h0)
  have ht254 : t < 247 := by
    by_contra hge
    by_cases h255 : t = 255
    · rw [h255, pw_top] at n2
      exact absurd (lt_of_lt_of_le (EReal.coe_lt_top r) n2) (lt_irrefl _)
    · rw [pw_eq t (by omega) (by omega)] at n2
      have h2 : (2 : ℝ) ^ ((t : ℤ) - 127) ≤ r := by exact_mod_cast n2
      have h3 : (2 : ℝ) ^ (120 : ℤ) ≤ (2 : ℝ) ^ ((t : ℤ) - 127) := zpow_le_zpow_right₀ (by norm_num) (by omega)
      linarith
  obtain ⟨es, ei⟩ := scS_inS (r : EReal) t (by omega) ht
  rw [es, ei, log_two_eq]
  have n3 : (r : EReal) < pw (t + 1) := by rcases n3 with h | h; · omega
                                           · exact h
  by_cases hz : t = 0
  · subst hz
    have hf : flR (r : EReal) = 0 := by unfold flR; exact if_pos n3
    have he : eR (r : EReal) = 0 := by unfold eR; exact if_pos hf
    rw [he, if_pos rfl, show 254 - 127 = 127 from rfl, pw_eq 127 (by norm_num) (by norm_num)]
    have e0 : Ideal.exp 0 = 1 := by
      rw [show (0 : EReal) = ((0 : ℝ) : EReal) from rfl, Ideal.exp_coe, Real.exp_zero]; rfl
    simp [e0]
  · rw [if_neg hz, pw_eq (t + 1) (by omega) (by omega), pw_eq (254 - (t + 1)) (by omega) (by omega)]
    rw [pw_eq t (by omega) (by omega)] at n2
    rw [pw_eq (t + 1) (by omega) (by omega)] at n3
    have m2 : (2 : ℝ) ^ ((t : ℤ) - 127) ≤ r := by exact_mod_cast n2
    have m3 : r < (2 : ℝ) ^ (((t + 1 : ℕ) : ℤ) - 127) := by exact_mod_cast n3
    have hr : 0 < r := lt_of_lt_of_le (by positivity) m2
    have hf : flR (r : EReal) = r := by
      unfold flR
      refine if_neg (not_lt.mpr ?_)
      have h := pw_eq 1 (by norm_num) (by norm_num)
      rw [show Ideal.ofBits .f32 0x00800000#32 = pw 1 from rfl, h]
      have : (2 : ℝ) ^ (((1 : ℕ) : ℤ) - 127) ≤ (2 : ℝ) ^ ((t : ℤ) - 127) := zpow_le_zpow_right₀ (by norm_num) (by omega)
      exact_mod_cast this.trans m2
    have l2 : 0 < Real.log 2 := Real.log_pos (by norm_num)
    have hfl : ⌊Real.log r * (Real.log 2)⁻¹⌋ = (t : ℤ) - 127 := by
      rw [← div_eq_mul_inv, Int.floor_eq_iff]
      constructor
      · rw [le_div_iff₀ l2, ← Real.log_zpow]
        exact Real.log_le_log (by positivity) m2
      · rw [div_lt_iff₀ l2, show (((t : ℤ) - 127 : ℤ) : ℝ) + 1 = ((((t + 1 : ℕ) : ℤ) - 127 : ℤ) : ℝ) from by push_cast; ring, ← Real.log_zpow]
        exact Real.log_lt_log hr m3
    have he : eR (r : EReal) = ((((t : ℤ) - 126 : ℤ) : ℝ) : EReal) := by
      unfold eR
      rw [hf, if_neg (by exact_mod_cast hr.ne'), log_two_eq, Ideal.log_coe, if_neg (not_le.mpr hr)]
      unfold Ideal.div
      rw [if_neg (by exact_mod_cast l2.ne'), ← EReal.coe_inv, ← EReal.coe_mul]
      show (((⌊Real.log r * (Real.log 2)⁻¹⌋ : ℤ) : ℝ) : EReal) + 1 = _
      rw [hfl, show (1 : EReal) = ((1 : ℝ) : EReal) from rfl, ← EReal.coe_add]
      congr 1
      push_cast
      ring
    rw [he, exp_mul_log, ← EReal.coe_neg, ← Int.cast_neg, exp_mul_log]
    refine ⟨?_, ?_⟩
    · congr 2; push_cast; ring
    · congr 2
      omega

end Cert.KernelIdeal.Gen

end
-- ==== Proof.Ideal.Nibble.lean ====
module

public import proofs.«01_k».proof.Proof.Ideal.Decode

@[expose] public section

/-! The nibbles: the fp8 pattern the kernel makes of a nibble, times 64, is the four-bit float the reference decodes. -/

set_option maxRecDepth 16384

noncomputable section

namespace Cert.KernelIdeal.Gen

open Idealize.ShloMosaic Idealize.ShloMosaic.TcCoe Idealize.ShloMosaic.Tactic

/-- The fp8 pattern of a nibble. -/
def patN (n : ℕ) : BitVec 8 := BitVec.ofNat 8 ((n / 8) * 128 + (n % 8) * 4)

theorem patLo_eq : ∀ b : BitVec 8, patLo b = patN (b.toNat % 16) := by decide +kernel
theorem patHi_eq : ∀ b : BitVec 8, patHi b = patN (b.toNat / 16) := by decide +kernel

/-- The four-bit float as the reference selects it. -/
def magR (c : BitVec 32) : EReal :=
  let b0 := IntOp.cmpi CmpIPredicate.ne (IntOp.andi c 1#32) 0#32
  let b1 := IntOp.cmpi CmpIPredicate.ne (IntOp.andi c 2#32) 0#32
  let b2 := IntOp.cmpi CmpIPredicate.ne (IntOp.andi c 4#32) 0#32
  let b3 := IntOp.cmpi CmpIPredicate.ne (IntOp.andi c 8#32) 0#32
  let m : EReal := Scalar.select b2
    (Scalar.select b1 (Scalar.select b0 (Ideal.ofBits .bf16 0x40C0#16) (Ideal.ofBits .bf16 0x4080#16))
      (Scalar.select b0 (Ideal.ofBits .bf16 0x4040#16) (Ideal.ofBits .bf16 0x4000#16)))
    (Scalar.select b1 (Scalar.select b0 (Ideal.ofBits .bf16 0x3FC0#16) (Ideal.ofBits .bf16 0x3F80#16))
      (Scalar.select b0 (Ideal.ofBits .bf16 0x3F00#16) (Ideal.ofBits .bf16 0x0000#16)))
  Scalar.select b3 (-m) m

/-- A pattern of the fp8 format that is neither all ones nor subnormal, or is. -/
theorem fp8_eq (b : BitVec 8) (s e f : ℕ) (hs : (b.extractLsb' 7 1 == 1#1) = decide (s = 1)) (he : (b.extractLsb' 3 4).toNat = e)
    (hf : (b.extractLsb' 0 3).toNat = f) (h : e < 15) : Ideal.ofBits .fp8e4m3 b
      = (((if s = 1 then -1 else 1) * (if e = 0 then (f : ℝ) * (2 : ℝ) ^ (-9 : Int) else ((8 + f : ℕ) : ℝ) * (2 : ℝ) ^ ((e : Int) - 10)) : ℝ) : EReal) := by
  show Ideal.e4m3fn b = _
  unfold Ideal.e4m3fn
  dsimp only
  rw [hs, he, hf, if_neg (by omega)]
  split
  · rw [mul_assoc]; simp
  · rw [mul_assoc]; simp

/-- A pattern of the bfloat16 format of sign zero and neither all ones nor subnormal. -/
theorem bf16_eq (b : BitVec 16) (e f : ℕ) (hs : (b.extractLsb' 15 1 == 1#1) = false) (he : (b.extractLsb' 7 8).toNat = e)
    (hf : (b.extractLsb' 0 7).toNat = f) (h : e < 255) (h0 : e ≠ 0) : Ideal.ofBits .bf16 b
      = ((((128 + f : ℕ) : ℝ) * (2 : ℝ) ^ ((e : Int) - 134) : ℝ) : EReal) := by
  show Ideal.ieee 8 7 b = _
  unfold Ideal.ieee
  dsimp only
  rw [show (8 : ℕ) + 7 = 15 from rfl, hs, he, hf, if_neg (by norm_num; omega), if_neg h0]
  congr 1
  rw [show ((e : ℤ) - (2 ^ (8 - 1) - 1) - ((7 : ℕ) : ℤ)) = (e : ℤ) - 134 from by norm_num; ring]
  norm_num

theorem c64 : Ideal.ofBits .bf16 0x4280#16 = ((64 : ℝ) : EReal) := by
  rw [bf16_eq _ 133 0 (by decide) (by decide) (by decide) (by decide) (by decide)]; norm_num
theorem c6 : Ideal.ofBits .bf16 0x40C0#16 = ((6 : ℝ) : EReal) := by
  rw [bf16_eq _ 129 64 (by decide) (by decide) (by decide) (by decide) (by decide)]; norm_num
theorem c4 : Ideal.ofBits .bf16 0x4080#16 = ((4 : ℝ) : EReal) := by
  rw [bf16_eq _ 129 0 (by decide) (by decide) (by decide) (by decide) (by decide)]; norm_num
theorem c3 : Ideal.ofBits .bf16 0x4040#16 = ((3 : ℝ) : EReal) := by
  rw [bf16_eq _ 128 64 (by decide) (by decide) (by decide) (by decide) (by decide)]; norm_num
theorem c2 : Ideal.ofBits .bf16 0x4000#16 = ((2 : ℝ) : EReal) := by
  rw [bf16_eq _ 128 0 (by decide) (by decide) (by decide) (by decide) (by decide)]; norm_num
theorem c15 : Ideal.ofBits .bf16 0x3FC0#16 = ((1.5 : ℝ) : EReal) := by
  rw [bf16_eq _ 127 64 (by decide) (by decide) (by decide) (by decide) (by decide)]; norm_num
theorem c1 : Ideal.ofBits .bf16 0x3F80#16 = ((1 : ℝ) : EReal) := by
  rw [bf16_eq _ 127 0 (by decide) (by decide) (by decide) (by decide) (by decide)]; norm_num
theorem c05 : Ideal.ofBits .bf16 0x3F00#16 = ((0.5 : ℝ) : EReal) := by
  rw [bf16_eq _ 126 0 (by decide) (by decide) (by decide) (by decide) (by decide)]; norm_num
theorem c0 : Ideal.ofBits .bf16 0x0000#16 = ((0 : ℝ) : EReal) := Ideal.ofBits_zero_bf16

/-- The values of the sixteen nibbles. -/
def nibV (n : ℕ) : ℝ := (if n / 8 = 1 then -1 else 1) * (match n % 8 with | 0 => 0 | 1 => 0.5 | 2 => 1 | 3 => 1.5 | 4 => 2 | 5 => 3 | 6 => 4 | _ => 6)

theorem pat_bits : ∀ n : Fin 16, ((patN n.val).extractLsb' 7 1 == 1#1) = decide (n.val / 8 = 1)
    ∧ ((patN n.val).extractLsb' 3 4).toNat = n.val % 8 / 2 ∧ ((patN n.val).extractLsb' 0 3).toNat = n.val % 2 * 4 := by decide +kernel

theorem pat_val (n : ℕ) (h : n < 16) : Ideal.ofBits .fp8e4m3 (patN n) * Ideal.ofBits .bf16 0x4280#16 = ((nibV n : ℝ) : EReal) := by
  obtain ⟨h1, h2, h3⟩ := pat_bits ⟨n, h⟩
  rw [fp8_eq _ (n / 8) _ _ h1 h2 h3 (by dsimp only; omega), c64, ← EReal.coe_mul]
  congr 1
  dsimp only
  unfold nibV
  interval_cases n <;> norm_num

theorem mag_val (n : ℕ) (h : n < 16) : magR (BitVec.ofNat 32 n) = ((nibV n : ℝ) : EReal) := by
  unfold magR nibV
  rw [c6, c4, c3, c2, c15, c1, c05, c0]
  interval_cases n <;> simp [Scalar.select, IntOp.cmpi, IntOp.andi]

/-- A nibble's pattern, times a scale times 64, is its value times the scale. -/
theorem nib_mul (n : ℕ) (h : n < 16) (s : EReal) :
    Ideal.ofBits .fp8e4m3 (patN n) * (s * Ideal.ofBits .bf16 0x4280#16) = magR (BitVec.ofNat 32 n) * s := by
  rw [mag_val n h, ← pat_val n h, mul_comm s, mul_assoc]

end Cert.KernelIdeal.Gen

end
-- ==== Proof.Ideal.Products.lean ====
module

public import proofs.«01_k».proof.Proof.Ideal.Decode
public import Idealize.ShloMosaic.Lib.MatmulPlain
public import Idealize.ShloMosaic.Lib.Writes

@[expose] public section

/-! The seven products of the body: the block of `y` that a grid point leaves, as one function of its entries. -/

set_option maxRecDepth 16384

noncomputable section

namespace Cert.KernelIdeal.Gen

open Idealize.ShloMosaic Idealize.ShloMosaic.TcCoe Idealize.ShloMosaic.Tactic

/-- The block of `y`: the product of the quantised activations and the decoded weights, times the global scale. -/
def ySpec (g : EReal) (xs : Vec Ideal S1152x1536 .bf16) (wd : Vec Ideal S1792x1536 .bf16) : Vec Ideal S1152x1792 .bf16 := fun y =>
  ((∑ k : Fin 1536, (xs (ix2 (y 0) k) : EReal) * (wd (ix2 (y 1) k) : EReal)) * g : EReal)

/-- One product of 256 weight rows, entry by entry. -/
theorem prod_apply (g : Elt Ideal .f32) (xs : Vec Ideal S1152x1536 .bf16) (w : Vec Ideal S256x1536 .bf16) (r : Fin 1152) (n : Fin 256) :
    (k0_pay186 g xs w (ix2 r n) : EReal) = (∑ k : Fin 1536, (xs (ix2 r k) : EReal) * (w (ix2 n k) : EReal)) * (g : EReal) := by
  have h := Ideal.matmul_transposedRhs_apply (φ₁ := .bf16) (φ₂ := .bf16) (M := 1152) (K := 1536) (N := 256) none xs w (constant (F := Ideal) S1152x256 .f32 0#32) r n
  have h0 : (constant (F := Ideal) S1152x256 .f32 0#32 (ix2 r n) : EReal) = 0 := by
    show Ideal.ofBits .f32 0#32 = 0
    exact Ideal.ofBits_zero_f32
  exact congrArg (· * (g : EReal)) (h.trans ((congrArg₂ (· + ·) h0 rfl).trans (zero_add _)))

/-- One product's store is the block of `y` over its rectangle. -/
theorem prod_block (g : Elt Ideal .f32) (xs : Vec Ideal S1152x1536 .bf16) (wd : Vec Ideal S1792x1536 .bf16) (ro : Nat)
    (h1 : ∀ a, (![ro, 0] : Fin 2 → Nat) a + S256x1536.size a ≤ S1792x1536.size a)
    (h2 : ∀ a, (![0, ro] : Fin 2 → Nat) a + S1152x256.size a ≤ S1152x1792.size a)
    (x : (Rect.unit (s := S1152x1792) ![0, ro] S1152x256.size h2).shape.Idx) :
    k0_pay186 g xs (View.ld wd (Rect.unit (s := S1792x1536) ![ro, 0] S256x1536.size h1)) x
      = ySpec g xs wd ((Rect.unit (s := S1152x1792) ![0, ro] S1152x256.size h2).emb x) := by
  have hx0 : (x 0).val < 1152 := (x 0).isLt
  have hx1 : (x 1).val < 256 := (x 1).isLt
  have ex : x = (ix2 ⟨(x 0).val, hx0⟩ ⟨(x 1).val, hx1⟩ : S1152x256.Idx) := by
    funext c; match c with | ⟨0, _⟩ => rfl | ⟨1, _⟩ => rfl
  have e0 := ValueKit.rect_emb_unit_val (s := S1152x1792) ![0, ro] S1152x256.size h2 x 0
  have e1 := ValueKit.rect_emb_unit_val (s := S1152x1792) ![0, ro] S1152x256.size h2 x 1
  generalize (Rect.unit (s := S1152x1792) ![0, ro] S1152x256.size h2).emb x = y at e0 e1
  replace e0 : (y 0).val = 0 + (x 0).val := e0
  replace e1 : (y 1).val = ro + (x 1).val := e1
  refine ((congrArg _ ex).trans (prod_apply _ _ _ _ _)).trans ?_
  unfold ySpec
  refine congrArg (· * (g : EReal)) (Finset.sum_congr rfl fun k _ => ?_)
  congr 1
  · refine congrArg xs (funext fun c => ?_)
    match c with
    | ⟨0, _⟩ => exact Fin.ext (e0.trans (Nat.zero_add _)).symm
    | ⟨1, _⟩ => rfl
  · refine View.ld_unit_apply_of _ _ _ _ _ _ fun c => ?_
    match c with
    | ⟨0, _⟩ => exact e1
    | ⟨1, _⟩ => exact (Nat.zero_add _).symm

/-- The seven stores of a grid point leave the whole block of `y`. -/
theorem y_block (arg5 : Memref sig .tc .vmem S1152x1792 .bf16) (f : arg5.view.ty.Contents (Elt Ideal)) (g : Elt Ideal .f32)
    (xs : Vec Ideal S1152x1536 .bf16) (wd : Vec Ideal S1792x1536 .bf16) (w0 w1 w2 w3 w4 w5 w6 : Vec Ideal S256x1536 .bf16)
    (h0 : w0 = View.ld wd (Rect.unit (s := S1792x1536) ![0, 0] S256x1536.size inb_S1792x1536_S256x1536_0_0))
    (h1 : w1 = View.ld wd (Rect.unit (s := S1792x1536) ![256, 0] S256x1536.size inb_S1792x1536_S256x1536_256_0))
    (h2 : w2 = View.ld wd (Rect.unit (s := S1792x1536) ![512, 0] S256x1536.size inb_S1792x1536_S256x1536_512_0))
    (h3 : w3 = View.ld wd (Rect.unit (s := S1792x1536) ![768, 0] S256x1536.size inb_S1792x1536_S256x1536_768_0))
    (h4 : w4 = View.ld wd (Rect.unit (s := S1792x1536) ![1024, 0] S256x1536.size inb_S1792x1536_S256x1536_1024_0))
    (h5 : w5 = View.ld wd (Rect.unit (s := S1792x1536) ![1280, 0] S256x1536.size inb_S1792x1536_S256x1536_1280_0))
    (h6 : w6 = View.ld wd (Rect.unit (s := S1792x1536) ![1536, 0] S256x1536.size inb_S1792x1536_S256x1536_1536_0))
    : View.read (Elt Ideal) arg5.view (arg5.view.writes (Elt Ideal) f [⟨Rect.unit (s := S1152x1792) ![0, 1536] S1152x256.size inb_S1152x1792_S1152x256_0_1536, k0_pay1 g xs w6 (constant (F := Ideal) S1152x256 .f32 0#32)⟩ ,
      ⟨Rect.unit (s := S1152x1792) ![0, 1280] S1152x256.size inb_S1152x1792_S1152x256_0_1280, k0_pay367 g xs w5⟩ ,
      ⟨Rect.unit (s := S1152x1792) ![0, 1024] S1152x256.size inb_S1152x1792_S1152x256_0_1024, k0_pay333 g xs w4⟩ ,
      ⟨Rect.unit (s := S1152x1792) ![0, 768] S1152x256.size inb_S1152x1792_S1152x256_0_768, k0_pay298 g xs w3⟩ ,
      ⟨Rect.unit (s := S1152x1792) ![0, 512] S1152x256.size inb_S1152x1792_S1152x256_0_512, k0_pay262 g xs w2⟩ ,
      ⟨Rect.unit (s := S1152x1792) ![0, 256] S1152x256.size inb_S1152x1792_S1152x256_0_256, k0_pay224 g xs w1⟩ ,
      ⟨Rect.unit (s := S1152x1792) ![0, 0] S1152x256.size inb_S1152x1792_S1152x256_0_0, k0_pay186 g xs w0⟩]) = ySpec g xs wd := by
  subst h0 h1 h2 h3 h4 h5 h6
  funext y
  refine View.read_writes_apply_of_pieces (v := arg5.view) (f := f) (ySpec g xs wd) _ ?_ y ?_
  · exact View.PiecesOf.mem ⟨fun x => prod_block g xs wd 1536 inb_S1792x1536_S256x1536_1536_0 inb_S1152x1792_S1152x256_0_1536 x, fun x => prod_block g xs wd 1280 inb_S1792x1536_S256x1536_1280_0 inb_S1152x1792_S1152x256_0_1280 x, fun x => prod_block g xs wd 1024 inb_S1792x1536_S256x1536_1024_0 inb_S1152x1792_S1152x256_0_1024 x, fun x => prod_block g xs wd 768 inb_S1792x1536_S256x1536_768_0 inb_S1152x1792_S1152x256_0_768 x, fun x => prod_block g xs wd 512 inb_S1792x1536_S256x1536_512_0 inb_S1152x1792_S1152x256_0_512 x, fun x => prod_block g xs wd 256 inb_S1792x1536_S256x1536_256_0 inb_S1152x1792_S1152x256_0_256 x, fun x => prod_block g xs wd 0 inb_S1792x1536_S256x1536_0_0 inb_S1152x1792_S1152x256_0_0 x, trivial⟩
  · exact View.cover_of_tiledL (s := S1152x1792) _ S1152x256.size (by sl_kernel_rfl) y

end Cert.KernelIdeal.Gen

end
-- ==== Proof.Ideal.RunBN.lean ====
module

public import proofs.«01_k».proof.Proof.Ideal.Products

@[expose] public section

/-! The body's run at the later grid points over the extended reals: the block of `y` it leaves. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The scalar that the body reads from the global scale's window. -/
theorem runB_r (c : Dev nD) (arg1 : Memref sig .tc .smem S1 .f32) (harg1 : arg1.IsWhole) (x0 : Vec Ideal S1 .f32) :
    runB.sl.r c arg1 harg1 x0 = x0 (ix1 0) := by
  unfold runB.sl.r
  rw [View.readAt_eq_ld, harg1.read_unread]
  refine View.ld_unit_apply_of _ _ _ _ _ _ fun a => ?_
  match a with
  | ⟨0, _⟩ => rfl

/-- A whole load of the quantised activations' scratch. -/
theorem xs_load (arg8 : Memref sig .tc .vmem S1152x1536 .bf16) (f : arg8.view.ty.Contents (Elt Ideal)) :
    View.readAt (Elt Ideal) arg8.view (Rect.unit (s := S1152x1536) ![0, 0] S1152x1536.size inb_S1152x1536_S1152x1536_0_0).toLoadRect f
      = arg8.view.read (Elt Ideal) f := by
  rw [View.readAt_eq_ld]
  exact View.ld_unit_lit _ _ (by decide)

-- (the run's proof term is large: checking it walks past the default budget)
set_option maxHeartbeats 4000000 in
/-- At a later grid point, with the quantised activations `xs` in their scratch, the body leaves the block of `y` of its
    weight rows. -/
theorem runBN (c : Dev nD) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (hc0 : ¬cond0_0 i)
    (x0 : Vec Ideal S1 .f32) (x1 : Vec Ideal S1152x1536 .bf16) (x2 : Vec Ideal S1792x768 .i8) (x3 : Vec Ideal S1792x96 .fp8e4m3) (xs : Vec Ideal S1152x1536 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare xs ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (ySpec (x0 (ix1 0)) xs (wdG x2 x3)) ∗ owns (c : Thread nD τ) arg8 fullShare xs ∗ (∃ d, owns (c : Thread nD τ) arg9 fullShare d)) -∗ K ⟨⟩))
          ⊢ wp frame (wpE (defs₀ (F := Ideal)) Variants.none c none) E (cc0_nvfp4_matmul i arg1 harg1 arg2 harg2 arg3 harg3 arg4 harg4 arg5 harg5 arg6 harg6 arg7 harg7 arg8 harg8 arg9 harg9) K := by
    intro E K
    simp only [cc0_nvfp4_matmul_eq_skeleton]; unfold cc0_nvfp4_matmul_skel
    simp only [k0_part69_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3
    subst hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (y_block arg5 f4 (runB.sl.r c arg1 harg1 x0) _ (wdG x2 x3) _ _ _ _ _ _ _ (wd_load_0 c arg3 harg3 arg4 harg4 arg9 x2 x3) (wd_load_1 c arg3 harg3 arg4 harg4 arg9 x2 x3) (wd_load_2 c arg3 harg3 arg4 harg4 arg9 x2 x3) (wd_load_3 c arg3 harg3 arg4 harg4 arg9 x2 x3) (wd_load_4 c arg3 harg3 arg4 harg4 arg9 x2 x3) (wd_load_5 c arg3 harg3 arg4 harg4 arg9 x2 x3) (wd_load_6 c arg3 harg3 arg4 harg4 arg9 x2 x3)).trans ?_
      rw [runB_r]
      exact congrArg (fun z => ySpec (x0 (ix1 0)) z (wdG x2 x3)) (xs_load arg8 fs0)
    isplitl [HS0]
    · iexists _; isplitr; swap; · iexact HS0
      ipureintro; rfl
    iexists _, _; isplitr; swap; · iexact HS1
    ipureintro; rfl

end Cert.KernelIdeal.Gen

end
-- ==== Proof.Ideal.Loop.lean ====
module

public import proofs.«01_k».proof.Proof.Ideal.Quant
public import proofs.«01_k».proof.Proof.Gen.KernelIdeal.Loops

@[expose] public section

/-! What the quantiser's loop leaves in the codes', the scales' and the scratch's buffers. -/

set_option maxRecDepth 16384

noncomputable section

namespace Cert.KernelIdeal.Gen

open Idealize.ShloMosaic Idealize.ShloMosaic.TcCoe Idealize.ShloMosaic.Tactic

local notation "BF" => Vec Ideal S32x128 EltTy.bf16
local notation "FF" => FVec Ideal S32x128 FTy.f32

/-- A stored block of 32 rows and 128 columns is a block of `G` when its entries are. -/
theorem block_of {e : EltTy} {G : S1152x1536.Idx → Elt Ideal e} {off : Fin 2 → Nat} {K C : Nat} (hoff : off = ![K, C])
    (inb : ∀ a, off a + S32x128.size a ≤ S1152x1536.size a) {w W : Vec Ideal S32x128 e} (hw : w = W)
    (h : ∀ (r : Fin 32) (l : Fin 128) (y : S1152x1536.Idx), (y 0).val = K + r.val → (y 1).val = C + l.val → W (ix2 r l) = G y)
    (x : S32x128.Idx) : w x = G ((Rect.unit (s := S1152x1536) off S32x128.size inb).emb x) := by
  subst hw hoff
  obtain ⟨r, l, rfl⟩ : ∃ (r : Fin 32) (l : Fin 128), x = ix2 r l := ⟨x 0, x 1, by funext a; match a with | ⟨0, _⟩ => rfl | ⟨1, _⟩ => rfl⟩
  exact h r l _ (ValueKit.rect_emb_unit_val (s := S1152x1536) _ _ inb _ 0) (ValueKit.rect_emb_unit_val (s := S1152x1536) _ _ inb _ 1)

/-- The same for a stored block of 32 rows of scales. -/
theorem block_of' {e : EltTy} {G : S1152x48.Idx → Elt Ideal e} {off : Fin 2 → Nat} {K C : Nat} (hoff : off = ![K, C])
    (inb : ∀ a, off a + S32x48.size a ≤ S1152x48.size a) {w W : Vec Ideal S32x48 e} (hw : w = W)
    (h : ∀ (r : Fin 32) (l : Fin 48) (y : S1152x48.Idx), (y 0).val = K + r.val → (y 1).val = C + l.val → W (ix2 r l) = G y)
    (x : S32x48.Idx) : w x = G ((Rect.unit (s := S1152x48) off S32x48.size inb).emb x) := by
  subst hw hoff
  obtain ⟨r, l, rfl⟩ : ∃ (r : Fin 32) (l : Fin 48), x = ix2 r l := ⟨x 0, x 1, by funext a; match a with | ⟨0, _⟩ => rfl | ⟨1, _⟩ => rfl⟩
  exact h r l _ (ValueKit.rect_emb_unit_val (s := S1152x48) _ _ inb _ 0) (ValueKit.rect_emb_unit_val (s := S1152x48) _ _ inb _ 1)

/-- The entries of a block of 32 rows and 128 columns. -/
theorem block_mem {off : Fin 2 → Nat} {K C : Nat} (hoff : off = ![K, C]) {inb : ∀ a, off a + S32x128.size a ≤ S1152x1536.size a}
    {y : S1152x1536.Idx} (h0 : K ≤ (y 0).val ∧ (y 0).val < K + 32) (h1 : C ≤ (y 1).val ∧ (y 1).val < C + 128) :
    y ∈ (Rect.unit (s := S1152x1536) off S32x128.size inb).set := by
  subst hoff
  rw [Rect.mem_set_unit]; intro a
  match a with
  | ⟨0, _⟩ => exact h0
  | ⟨1, _⟩ => exact h1

/-- The entries of a block of 32 rows of scales. -/
theorem block_mem' {off : Fin 2 → Nat} {K : Nat} (hoff : off = ![K, 0]) {inb : ∀ a, off a + S32x48.size a ≤ S1152x48.size a}
    {y : S1152x48.Idx} (h0 : K ≤ (y 0).val ∧ (y 0).val < K + 32) :
    y ∈ (Rect.unit (s := S1152x48) off S32x48.size inb).set := by
  subst hoff
  rw [Rect.mem_set_unit]; intro a
  match a with
  | ⟨0, _⟩ => exact h0
  | ⟨1, _⟩ => exact ⟨Nat.zero_le _, (show (y 1).val < 0 + 48 from by rw [Nat.zero_add]; exact (y 1).isLt)⟩

theorem piecesOf_append {s : Shape} {e : EltTy} (G : s.Idx → Elt Ideal e) : ∀ (L L' : List (View.Piece (Elt Ideal) s e)),
    View.PiecesOf G L → View.PiecesOf G L' → View.PiecesOf G (L ++ L')
  | [], _, _, h => h
  | _ :: L, L', h, h' => ⟨h.1, piecesOf_append G L L' h.2 h'⟩

/-- A block of activations that a trip loads. -/
theorem load_apply (arg2 : Memref sig .tc .vmem S1152x1536 .bf16) (harg2 : arg2.IsWhole) (x1 : Vec Ideal S1152x1536 .bf16)
    {off : Fin 2 → Nat} {k C : Nat} (hk : k < 36) (hC : C + 128 ≤ 1536) (hoff : off = ![32 * k, C]) (inb : ∀ a, off a + S32x128.size a ≤ S1152x1536.size a) (r : Fin 32) (l : Fin 128) :
    View.readAt (Elt Ideal) arg2.view (Rect.unit (s := S1152x1536) off S32x128.size inb).toLoadRect (harg2.unread x1) (ix2 r l)
      = x1 (ix2 ⟨32 * k + r.val, by omega⟩ ⟨C + l.val, by omega⟩) := by
  subst hoff
  rw [View.readAt_eq_ld, harg2.read_unread]
  refine View.ld_unit_apply_of _ _ _ _ _ _ fun a => ?_
  match a with
  | ⟨0, _⟩ => rfl
  | ⟨1, _⟩ => rfl

/-- The twelve blocks that a trip loads. -/
def tripB (i : grid0.Coords) (k0_h1 : k0_cond1 i = 1#1) (arg2 : Memref sig .tc .vmem S1152x1536 .bf16) (X : BufTy.Contents (Elt Ideal) arg2.view.ty) (k : Fin k0_t1_loop.trips) : Fin 12 → BF
  | 0 => View.readAt (Elt Ideal) arg2.view (Rect.unit (s := S1152x1536) (k0_off1 k) S32x128.size (k0_off1_inb i k k0_h1)).toLoadRect X
  | 1 => View.readAt (Elt Ideal) arg2.view (Rect.unit (s := S1152x1536) (k0_off2 k) S32x128.size (k0_off2_inb i k k0_h1)).toLoadRect X
  | 2 => View.readAt (Elt Ideal) arg2.view (Rect.unit (s := S1152x1536) (k0_off3 k) S32x128.size (k0_off3_inb i k k0_h1)).toLoadRect X
  | 3 => View.readAt (Elt Ideal) arg2.view (Rect.unit (s := S1152x1536) (k0_off4 k) S32x128.size (k0_off4_inb i k k0_h1)).toLoadRect X
  | 4 => View.readAt (Elt Ideal) arg2.view (Rect.unit (s := S1152x1536) (k0_off5 k) S32x128.size (k0_off5_inb i k k0_h1)).toLoadRect X
  | 5 => View.readAt (Elt Ideal) arg2.view (Rect.unit (s := S1152x1536) (k0_off6 k) S32x128.size (k0_off6_inb i k k0_h1)).toLoadRect X
  | 6 => View.readAt (Elt Ideal) arg2.view (Rect.unit (s := S1152x1536) (k0_off7 k) S32x128.size (k0_off7_inb i k k0_h1)).toLoadRect X
  | 7 => View.readAt (Elt Ideal) arg2.view (Rect.unit (s := S1152x1536) (k0_off8 k) S32x128.size (k0_off8_inb i k k0_h1)).toLoadRect X
  | 8 => View.readAt (Elt Ideal) arg2.view (Rect.unit (s := S1152x1536) (k0_off9 k) S32x128.size (k0_off9_inb i k k0_h1)).toLoadRect X
  | 9 => View.readAt (Elt Ideal) arg2.view (Rect.unit (s := S1152x1536) (k0_off10 k) S32x128.size (k0_off10_inb i k k0_h1)).toLoadRect X
  | 10 => View.readAt (Elt Ideal) arg2.view (Rect.unit (s := S1152x1536) (k0_off11 k) S32x128.size (k0_off11_inb i k k0_h1)).toLoadRect X
  | 11 => View.readAt (Elt Ideal) arg2.view (Rect.unit (s := S1152x1536) (k0_off12 k) S32x128.size (k0_off12_inb i k k0_h1)).toLoadRect X

theorem trip_lt (k : Fin k0_t1_loop.trips) : k.val < 36 := Nat.lt_of_lt_of_le k.isLt k0_t1_abs.2.1

theorem tripB_blocks (i : grid0.Coords) (k0_h1 : k0_cond1 i = 1#1) (arg2 : Memref sig .tc .vmem S1152x1536 .bf16) (harg2 : arg2.IsWhole) (x1 : Vec Ideal S1152x1536 .bf16) (k : Fin k0_t1_loop.trips) :
    IsBlocks x1 ⟨k.val, trip_lt k⟩ (tripB i k0_h1 arg2 (harg2.unread x1) k) := by
  intro n r l
  match n with
  | 0 => exact load_apply arg2 harg2 x1 (trip_lt k) (by decide) (k0_off1_eq k) _ r l
  | 1 => exact load_apply arg2 harg2 x1 (trip_lt k) (by decide) (k0_off2_eq k) _ r l
  | 2 => exact load_apply arg2 harg2 x1 (trip_lt k) (by decide) (k0_off3_eq k) _ r l
  | 3 => exact load_apply arg2 harg2 x1 (trip_lt k) (by decide) (k0_off4_eq k) _ r l
  | 4 => exact load_apply arg2 harg2 x1 (trip_lt k) (by decide) (k0_off5_eq k) _ r l
  | 5 => exact load_apply arg2 harg2 x1 (trip_lt k) (by decide) (k0_off6_eq k) _ r l
  | 6 => exact load_apply arg2 harg2 x1 (trip_lt k) (by decide) (k0_off7_eq k) _ r l
  | 7 => exact load_apply arg2 harg2 x1 (trip_lt k) (by decide) (k0_off8_eq k) _ r l
  | 8 => exact load_apply arg2 harg2 x1 (trip_lt k) (by decide) (k0_off9_eq k) _ r l
  | 9 => exact load_apply arg2 harg2 x1 (trip_lt k) (by decide) (k0_off10_eq k) _ r l
  | 10 => exact load_apply arg2 harg2 x1 (trip_lt k) (by decide) (k0_off11_eq k) _ r l
  | 11 => exact load_apply arg2 harg2 x1 (trip_lt k) (by decide) (k0_off12_eq k) _ r l

section

variable (𝒱 : Variants) (c : Dev nD) (bd : Option 𝒱.V) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (k0_h1 : k0_cond1 i = 1#1)
  (x1 : Vec Ideal S1152x1536 .bf16)

-- each stored word is unfolded to its spelling
set_option maxHeartbeats 4000000 in
/-- A trip's stores of codes are blocks of the codes. -/
theorem trip_codes (k : Fin k0_t1_loop.trips) : View.PiecesOf (codesSpec x1) (trip_k0_t1 (F := Ideal) 𝒱 c bd i arg1 harg1 arg2 harg2 arg3 harg3 arg4 harg4 arg5 harg5 arg6 harg6 arg7 harg7 arg8 harg8 arg9 harg9 k0_h1 (harg2.unread x1) k).1 := by
  have hB := tripB_blocks i k0_h1 arg2 harg2 x1 k
  unfold trip_k0_t1
  dsimp only
  refine ⟨block_of (k0_off12_eq k) (k0_off12_inb i k k0_h1) (W := c2W 5#32 (eB (tripB i k0_h1 arg2 (harg2.unread x1) k) 5) (oB (tripB i k0_h1 arg2 (harg2.unread x1) k) 5) (iW (aB (tripB i k0_h1 arg2 (harg2.unread x1) k)))) rfl (fun r l y h0 h1 => c2_trip hB 5 r l y h0 (by simpa using h1)),
    block_of (k0_off11_eq k) (k0_off11_inb i k k0_h1) (W := c1W 5#32 (eB (tripB i k0_h1 arg2 (harg2.unread x1) k) 5) (oB (tripB i k0_h1 arg2 (harg2.unread x1) k) 5) (iW (aB (tripB i k0_h1 arg2 (harg2.unread x1) k)))) rfl (fun r l y h0 h1 => c1_trip hB 5 r l y h0 (by simpa using h1)),
    block_of (k0_off10_eq k) (k0_off10_inb i k k0_h1) (W := c2W 4#32 (eB (tripB i k0_h1 arg2 (harg2.unread x1) k) 4) (oB (tripB i k0_h1 arg2 (harg2.unread x1) k) 4) (iW (aB (tripB i k0_h1 arg2 (harg2.unread x1) k)))) rfl (fun r l y h0 h1 => c2_trip hB 4 r l y h0 (by simpa using h1)),
    block_of (k0_off9_eq k) (k0_off9_inb i k k0_h1) (W := c1W 4#32 (eB (tripB i k0_h1 arg2 (harg2.unread x1) k) 4) (oB (tripB i k0_h1 arg2 (harg2.unread x1) k) 4) (iW (aB (tripB i k0_h1 arg2 (harg2.unread x1) k)))) rfl (fun r l y h0 h1 => c1_trip hB 4 r l y h0 (by simpa using h1)),
    block_of (k0_off8_eq k) (k0_off8_inb i k k0_h1) (W := c2W 3#32 (eB (tripB i k0_h1 arg2 (harg2.unread x1) k) 3) (oB (tripB i k0_h1 arg2 (harg2.unread x1) k) 3) (iW (aB (tripB i k0_h1 arg2 (harg2.unread x1) k)))) rfl (fun r l y h0 h1 => c2_trip hB 3 r l y h0 (by simpa using h1)),
    block_of (k0_off7_eq k) (k0_off7_inb i k k0_h1) (W := c1W 3#32 (eB (tripB i k0_h1 arg2 (harg2.unread x1) k) 3) (oB (tripB i k0_h1 arg2 (harg2.unread x1) k) 3) (iW (aB (tripB i k0_h1 arg2 (harg2.unread x1) k)))) rfl (fun r l y h0 h1 => c1_trip hB 3 r l y h0 (by simpa using h1)),
    block_of (k0_off6_eq k) (k0_off6_inb i k k0_h1) (W := c2W 2#32 (eB (tripB i k0_h1 arg2 (harg2.unread x1) k) 2) (oB (tripB i k0_h1 arg2 (harg2.unread x1) k) 2) (iW (aB (tripB i k0_h1 arg2 (harg2.unread x1) k)))) rfl (fun r l y h0 h1 => c2_trip hB 2 r l y h0 (by simpa using h1)),
    block_of (k0_off5_eq k) (k0_off5_inb i k k0_h1) (W := c1W 2#32 (eB (tripB i k0_h1 arg2 (harg2.unread x1) k) 2) (oB (tripB i k0_h1 arg2 (harg2.unread x1) k) 2) (iW (aB (tripB i k0_h1 arg2 (harg2.unread x1) k)))) rfl (fun r l y h0 h1 => c1_trip hB 2 r l y h0 (by simpa using h1)),
    block_of (k0_off4_eq k) (k0_off4_inb i k k0_h1) (W := c2W 1#32 (eB (tripB i k0_h1 arg2 (harg2.unread x1) k) 1) (oB (tripB i k0_h1 arg2 (harg2.unread x1) k) 1) (iW (aB (tripB i k0_h1 arg2 (harg2.unread x1) k)))) rfl (fun r l y h0 h1 => c2_trip hB 1 r l y h0 (by simpa using h1)),
    block_of (k0_off3_eq k) (k0_off3_inb i k k0_h1) (W := c1W 1#32 (eB (tripB i k0_h1 arg2 (harg2.unread x1) k) 1) (oB (tripB i k0_h1 arg2 (harg2.unread x1) k) 1) (iW (aB (tripB i k0_h1 arg2 (harg2.unread x1) k)))) rfl (fun r l y h0 h1 => c1_trip hB 1 r l y h0 (by simpa using h1)),
    block_of (k0_off2_eq k) (k0_off2_inb i k k0_h1) (W := c2W 0#32 (eB (tripB i k0_h1 arg2 (harg2.unread x1) k) 0) (oB (tripB i k0_h1 arg2 (harg2.unread x1) k) 0) (iW (aB (tripB i k0_h1 arg2 (harg2.unread x1) k)))) rfl (fun r l y h0 h1 => c2_trip hB 0 r l y h0 (by simpa using h1)),
    block_of (k0_off1_eq k) (k0_off1_inb i k k0_h1) (W := c1W 0#32 (eB (tripB i k0_h1 arg2 (harg2.unread x1) k) 0) (oB (tripB i k0_h1 arg2 (harg2.unread x1) k) 0) (iW (aB (tripB i k0_h1 arg2 (harg2.unread x1) k)))) rfl (fun r l y h0 h1 => c1_trip hB 0 r l y h0 (by simpa using h1)), trivial⟩

-- each stored word is unfolded to its spelling
set_option maxHeartbeats 4000000 in
/-- A trip's store of scales is a block of the scales. -/
theorem trip_scale (k : Fin k0_t1_loop.trips) : View.PiecesOf (scaleSpec x1) (trip_k0_t1 (F := Ideal) 𝒱 c bd i arg1 harg1 arg2 harg2 arg3 harg3 arg4 harg4 arg5 harg5 arg6 harg6 arg7 harg7 arg8 harg8 arg9 harg9 k0_h1 (harg2.unread x1) k).2.1 := by
  have hB := tripB_blocks i k0_h1 arg2 harg2 x1 k
  unfold trip_k0_t1
  dsimp only
  refine ⟨block_of' (k0_off13_eq k) (k0_off13_inb i k k0_h1) (W := scW (sW (aB (tripB i k0_h1 arg2 (harg2.unread x1) k)))) rfl (fun r l y h0 h1 => sc_trip hB r l y h0 (by simpa using h1)), trivial⟩

-- each stored word is unfolded to its spelling
set_option maxHeartbeats 4000000 in
/-- A trip's stores of codes times scales are blocks of the quantised activations. -/
theorem trip_xs (k : Fin k0_t1_loop.trips) : View.PiecesOf (xsSpec x1) (trip_k0_t1 (F := Ideal) 𝒱 c bd i arg1 harg1 arg2 harg2 arg3 harg3 arg4 harg4 arg5 harg5 arg6 harg6 arg7 harg7 arg8 harg8 arg9 harg9 k0_h1 (harg2.unread x1) k).2.2.1 := by
  have hB := tripB_blocks i k0_h1 arg2 harg2 x1 k
  unfold trip_k0_t1
  dsimp only
  refine ⟨block_of (k0_off12_eq k) (k0_off12_inb i k k0_h1) (W := xW 5#32 (oB (tripB i k0_h1 arg2 (harg2.unread x1) k) 5) (sW (aB (tripB i k0_h1 arg2 (harg2.unread x1) k))) (iW (aB (tripB i k0_h1 arg2 (harg2.unread x1) k)))) rfl (fun r l y h0 h1 => xo_trip hB 5 r l y h0 (by simpa using h1)),
    block_of (k0_off6_eq k) (k0_off6_inb i k k0_h1) (W := xW 5#32 (eB (tripB i k0_h1 arg2 (harg2.unread x1) k) 5) (sW (aB (tripB i k0_h1 arg2 (harg2.unread x1) k))) (iW (aB (tripB i k0_h1 arg2 (harg2.unread x1) k)))) rfl (fun r l y h0 h1 => xe_trip hB 5 r l y h0 (by simpa using h1)),
    block_of (k0_off11_eq k) (k0_off11_inb i k k0_h1) (W := xW 4#32 (oB (tripB i k0_h1 arg2 (harg2.unread x1) k) 4) (sW (aB (tripB i k0_h1 arg2 (harg2.unread x1) k))) (iW (aB (tripB i k0_h1 arg2 (harg2.unread x1) k)))) rfl (fun r l y h0 h1 => xo_trip hB 4 r l y h0 (by simpa using h1)),
    block_of (k0_off5_eq k) (k0_off5_inb i k k0_h1) (W := xW 4#32 (eB (tripB i k0_h1 arg2 (harg2.unread x1) k) 4) (sW (aB (tripB i k0_h1 arg2 (harg2.unread x1) k))) (iW (aB (tripB i k0_h1 arg2 (harg2.unread x1) k)))) rfl (fun r l y h0 h1 => xe_trip hB 4 r l y h0 (by simpa using h1)),
    block_of (k0_off10_eq k) (k0_off10_inb i k k0_h1) (W := xW 3#32 (oB (tripB i k0_h1 arg2 (harg2.unread x1) k) 3) (sW (aB (tripB i k0_h1 arg2 (harg2.unread x1) k))) (iW (aB (tripB i k0_h1 arg2 (harg2.unread x1) k)))) rfl (fun r l y h0 h1 => xo_trip hB 3 r l y h0 (by simpa using h1)),
    block_of (k0_off4_eq k) (k0_off4_inb i k k0_h1) (W := xW 3#32 (eB (tripB i k0_h1 arg2 (harg2.unread x1) k) 3) (sW (aB (tripB i k0_h1 arg2 (harg2.unread x1) k))) (iW (aB (tripB i k0_h1 arg2 (harg2.unread x1) k)))) rfl (fun r l y h0 h1 => xe_trip hB 3 r l y h0 (by simpa using h1)),
    block_of (k0_off9_eq k) (k0_off9_inb i k k0_h1) (W := xW 2#32 (oB (tripB i k0_h1 arg2 (harg2.unread x1) k) 2) (sW (aB (tripB i k0_h1 arg2 (harg2.unread x1) k))) (iW (aB (tripB i k0_h1 arg2 (harg2.unread x1) k)))) rfl (fun r l y h0 h1 => xo_trip hB 2 r l y h0 (by simpa using h1)),
    block_of (k0_off3_eq k) (k0_off3_inb i k k0_h1) (W := xW 2#32 (eB (tripB i k0_h1 arg2 (harg2.unread x1) k) 2) (sW (aB (tripB i k0_h1 arg2 (harg2.unread x1) k))) (iW (aB (tripB i k0_h1 arg2 (harg2.unread x1) k)))) rfl (fun r l y h0 h1 => xe_trip hB 2 r l y h0 (by simpa using h1)),
    block_of (k0_off8_eq k) (k0_off8_inb i k k0_h1) (W := xW 1#32 (oB (tripB i k0_h1 arg2 (harg2.unread x1) k) 1) (sW (aB (tripB i k0_h1 arg2 (harg2.unread x1) k))) (iW (aB (tripB i k0_h1 arg2 (harg2.unread x1) k)))) rfl (fun r l y h0 h1 => xo_trip hB 1 r l y h0 (by simpa using h1)),
    block_of (k0_off2_eq k) (k0_off2_inb i k k0_h1) (W := xW 1#32 (eB (tripB i k0_h1 arg2 (harg2.unread x1) k) 1) (sW (aB (tripB i k0_h1 arg2 (harg2.unread x1) k))) (iW (aB (tripB i k0_h1 arg2 (harg2.unread x1) k)))) rfl (fun r l y h0 h1 => xe_trip hB 1 r l y h0 (by simpa using h1)),
    block_of (k0_off7_eq k) (k0_off7_inb i k k0_h1) (W := xW 0#32 (oB (tripB i k0_h1 arg2 (harg2.unread x1) k) 0) (sW (aB (tripB i k0_h1 arg2 (harg2.unread x1) k))) (iW (aB (tripB i k0_h1 arg2 (harg2.unread x1) k)))) rfl (fun r l y h0 h1 => xo_trip hB 0 r l y h0 (by simpa using h1)),
    block_of (k0_off1_eq k) (k0_off1_inb i k k0_h1) (W := xW 0#32 (eB (tripB i k0_h1 arg2 (harg2.unread x1) k) 0) (sW (aB (tripB i k0_h1 arg2 (harg2.unread x1) k))) (iW (aB (tripB i k0_h1 arg2 (harg2.unread x1) k)))) rfl (fun r l y h0 h1 => xe_trip hB 0 r l y h0 (by simpa using h1)), trivial⟩

/-- A trip stores all codes of its rows. -/
theorem trip_codes_cover (k : Fin k0_t1_loop.trips) (y : S1152x1536.Idx) (h0 : 32 * k.val ≤ (y 0).val ∧ (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 k0_h1 (harg2.unread x1) k).1, y ∈ p.1.set := by
  have h1 : (y 1).val < 1536 := (y 1).isLt
  unfold trip_k0_t1
  dsimp only
  obtain ⟨q, hq⟩ : ∃ q, q = (y 1).val / 128 := ⟨_, rfl⟩
  have hq' : q < 12 := by omega
  match q, hq, hq' with
  | 0, hq, _ => exact ⟨_, (.tail _ (.tail _ (.tail _ (.tail _ (.tail _ (.tail _ (.tail _ (.tail _ (.tail _ (.tail _ (.tail _ (.head _)))))))))))), block_mem (k0_off1_eq k) (inb := k0_off1_inb i k k0_h1) h0 (by omega)⟩
  | 1, hq, _ => exact ⟨_, (.tail _ (.tail _ (.tail _ (.tail _ (.tail _ (.tail _ (.tail _ (.tail _ (.tail _ (.tail _ (.head _))))))))))), block_mem (k0_off2_eq k) (inb := k0_off2_inb i k k0_h1) h0 (by omega)⟩
  | 2, hq, _ => exact ⟨_, (.tail _ (.tail _ (.tail _ (.tail _ (.tail _ (.tail _ (.tail _ (.tail _ (.tail _ (.head _)))))))))), block_mem (k0_off3_eq k) (inb := k0_off3_inb i k k0_h1) h0 (by omega)⟩
  | 3, hq, _ => exact ⟨_, (.tail _ (.tail _ (.tail _ (.tail _ (.tail _ (.tail _ (.tail _ (.tail _ (.head _))))))))), block_mem (k0_off4_eq k) (inb := k0_off4_inb i k k0_h1) h0 (by omega)⟩
  | 4, hq, _ => exact ⟨_, (.tail _ (.tail _ (.tail _ (.tail _ (.tail _ (.tail _ (.tail _ (.head _)))))))), block_mem (k0_off5_eq k) (inb := k0_off5_inb i k k0_h1) h0 (by omega)⟩
  | 5, hq, _ => exact ⟨_, (.tail _ (.tail _ (.tail _ (.tail _ (.tail _ (.tail _ (.head _))))))), block_mem (k0_off6_eq k) (inb := k0_off6_inb i k k0_h1) h0 (by omega)⟩
  | 6, hq, _ => exact ⟨_, (.tail _ (.tail _ (.tail _ (.tail _ (.tail _ (.head _)))))), block_mem (k0_off7_eq k) (inb := k0_off7_inb i k k0_h1) h0 (by omega)⟩
  | 7, hq, _ => exact ⟨_, (.tail _ (.tail _ (.tail _ (.tail _ (.head _))))), block_mem (k0_off8_eq k) (inb := k0_off8_inb i k k0_h1) h0 (by omega)⟩
  | 8, hq, _ => exact ⟨_, (.tail _ (.tail _ (.tail _ (.head _)))), block_mem (k0_off9_eq k) (inb := k0_off9_inb i k k0_h1) h0 (by omega)⟩
  | 9, hq, _ => exact ⟨_, (.tail _ (.tail _ (.head _))), block_mem (k0_off10_eq k) (inb := k0_off10_inb i k k0_h1) h0 (by omega)⟩
  | 10, hq, _ => exact ⟨_, (.tail _ (.head _)), block_mem (k0_off11_eq k) (inb := k0_off11_inb i k k0_h1) h0 (by omega)⟩
  | 11, hq, _ => exact ⟨_, (.head _), block_mem (k0_off12_eq k) (inb := k0_off12_inb i k k0_h1) h0 (by omega)⟩

/-- A trip stores all quantised activations of its rows. -/
theorem trip_xs_cover (k : Fin k0_t1_loop.trips) (y : S1152x1536.Idx) (h0 : 32 * k.val ≤ (y 0).val ∧ (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 k0_h1 (harg2.unread x1) k).2.2.1, y ∈ p.1.set := by
  have h1 : (y 1).val < 1536 := (y 1).isLt
  unfold trip_k0_t1
  dsimp only
  obtain ⟨q, hq⟩ : ∃ q, q = (y 1).val / 128 := ⟨_, rfl⟩
  have hq' : q < 12 := by omega
  match q, hq, hq' with
  | 0, hq, _ => exact ⟨_, (.tail _ (.tail _ (.tail _ (.tail _ (.tail _ (.tail _ (.tail _ (.tail _ (.tail _ (.tail _ (.tail _ (.head _)))))))))))), block_mem (k0_off1_eq k) (inb := k0_off1_inb i k k0_h1) h0 (by omega)⟩
  | 1, hq, _ => exact ⟨_, (.tail _ (.tail _ (.tail _ (.tail _ (.tail _ (.tail _ (.tail _ (.tail _ (.tail _ (.head _)))))))))), block_mem (k0_off2_eq k) (inb := k0_off2_inb i k k0_h1) h0 (by omega)⟩
  | 2, hq, _ => exact ⟨_, (.tail _ (.tail _ (.tail _ (.tail _ (.tail _ (.tail _ (.tail _ (.head _)))))))), block_mem (k0_off3_eq k) (inb := k0_off3_inb i k k0_h1) h0 (by omega)⟩
  | 3, hq, _ => exact ⟨_, (.tail _ (.tail _ (.tail _ (.tail _ (.tail _ (.head _)))))), block_mem (k0_off4_eq k) (inb := k0_off4_inb i k k0_h1) h0 (by omega)⟩
  | 4, hq, _ => exact ⟨_, (.tail _ (.tail _ (.tail _ (.head _)))), block_mem (k0_off5_eq k) (inb := k0_off5_inb i k k0_h1) h0 (by omega)⟩
  | 5, hq, _ => exact ⟨_, (.tail _ (.head _)), block_mem (k0_off6_eq k) (inb := k0_off6_inb i k k0_h1) h0 (by omega)⟩
  | 6, hq, _ => exact ⟨_, (.tail _ (.tail _ (.tail _ (.tail _ (.tail _ (.tail _ (.tail _ (.tail _ (.tail _ (.tail _ (.head _))))))))))), block_mem (k0_off7_eq k) (inb := k0_off7_inb i k k0_h1) h0 (by omega)⟩
  | 7, hq, _ => exact ⟨_, (.tail _ (.tail _ (.tail _ (.tail _ (.tail _ (.tail _ (.tail _ (.tail _ (.head _))))))))), block_mem (k0_off8_eq k) (inb := k0_off8_inb i k k0_h1) h0 (by omega)⟩
  | 8, hq, _ => exact ⟨_, (.tail _ (.tail _ (.tail _ (.tail _ (.tail _ (.tail _ (.head _))))))), block_mem (k0_off9_eq k) (inb := k0_off9_inb i k k0_h1) h0 (by omega)⟩
  | 9, hq, _ => exact ⟨_, (.tail _ (.tail _ (.tail _ (.tail _ (.head _))))), block_mem (k0_off10_eq k) (inb := k0_off10_inb i k k0_h1) h0 (by omega)⟩
  | 10, hq, _ => exact ⟨_, (.tail _ (.tail _ (.head _))), block_mem (k0_off11_eq k) (inb := k0_off11_inb i k k0_h1) h0 (by omega)⟩
  | 11, hq, _ => exact ⟨_, (.head _), block_mem (k0_off12_eq k) (inb := k0_off12_inb i k k0_h1) h0 (by omega)⟩

/-- A trip stores all scales of its rows. -/
theorem trip_scale_cover (k : Fin k0_t1_loop.trips) (y : S1152x48.Idx) (h0 : 32 * k.val ≤ (y 0).val ∧ (y 0).val < 32 * k.val + 32) :
    ∃ p ∈ (trip_k0_t1 (F := Ideal) 𝒱 c bd i arg1 harg1 arg2 harg2 arg3 harg3 arg4 harg4 arg5 harg5 arg6 harg6 arg7 harg7 arg8 harg8 arg9 harg9 k0_h1 (harg2.unread x1) k).2.1, y ∈ p.1.set := by
  unfold trip_k0_t1
  dsimp only
  exact ⟨_, (.head _), block_mem' (k0_off13_eq k) (inb := k0_off13_inb i k k0_h1) h0⟩

theorem trips_eq : k0_t1_loop.trips = 36 := by decide +kernel

/-- All stores of the loop's first trips are blocks of the three results. -/
theorem loop_pieces (n : Nat) (hn : n ≤ k0_t1_loop.trips) :
    View.PiecesOf (codesSpec x1) (pb_k0_t1 (F := Ideal) 𝒱 c bd i arg1 harg1 arg2 harg2 arg3 harg3 arg4 harg4 arg5 harg5 arg6 harg6 arg7 harg7 arg8 harg8 arg9 harg9 k0_h1 (harg2.unread x1) n).1
    ∧ View.PiecesOf (scaleSpec x1) (pb_k0_t1 (F := Ideal) 𝒱 c bd i arg1 harg1 arg2 harg2 arg3 harg3 arg4 harg4 arg5 harg5 arg6 harg6 arg7 harg7 arg8 harg8 arg9 harg9 k0_h1 (harg2.unread x1) n).2.1
    ∧ View.PiecesOf (xsSpec x1) (pb_k0_t1 (F := Ideal) 𝒱 c bd i arg1 harg1 arg2 harg2 arg3 harg3 arg4 harg4 arg5 harg5 arg6 harg6 arg7 harg7 arg8 harg8 arg9 harg9 k0_h1 (harg2.unread x1) n).2.2 := by
  induction n with
  | zero => exact ⟨trivial, trivial, trivial⟩
  | succ n ih =>
    obtain ⟨h1, h2, h3⟩ := ih (by omega)
    rw [pb_k0_t1_succ (F := Ideal) 𝒱 c bd i arg1 harg1 arg2 harg2 arg3 harg3 arg4 harg4 arg5 harg5 arg6 harg6 arg7 harg7 arg8 harg8 arg9 harg9 k0_h1 (harg2.unread x1) ⟨n, by omega⟩]
    exact ⟨piecesOf_append _ _ _ (trip_codes 𝒱 c bd i arg1 harg1 arg2 harg2 arg3 harg3 arg4 harg4 arg5 harg5 arg6 harg6 arg7 harg7 arg8 harg8 arg9 harg9 k0_h1 x1 _) h1, piecesOf_append _ _ _ (trip_scale 𝒱 c bd i arg1 harg1 arg2 harg2 arg3 harg3 arg4 harg4 arg5 harg5 arg6 harg6 arg7 harg7 arg8 harg8 arg9 harg9 k0_h1 x1 _) h2,
      piecesOf_append _ _ _ (trip_xs 𝒱 c bd i arg1 harg1 arg2 harg2 arg3 harg3 arg4 harg4 arg5 harg5 arg6 harg6 arg7 harg7 arg8 harg8 arg9 harg9 k0_h1 x1 _) h3⟩

/-- The stores of trip `k` are among those of the first `n > k` trips. -/
theorem loop_mem (k : Fin k0_t1_loop.trips) (n : Nat) (hk : k.val < n) (hn : n ≤ k0_t1_loop.trips) :
    (∀ p ∈ (trip_k0_t1 (F := Ideal) 𝒱 c bd i arg1 harg1 arg2 harg2 arg3 harg3 arg4 harg4 arg5 harg5 arg6 harg6 arg7 harg7 arg8 harg8 arg9 harg9 k0_h1 (harg2.unread x1) k).1, p ∈ (pb_k0_t1 (F := Ideal) 𝒱 c bd i arg1 harg1 arg2 harg2 arg3 harg3 arg4 harg4 arg5 harg5 arg6 harg6 arg7 harg7 arg8 harg8 arg9 harg9 k0_h1 (harg2.unread x1) n).1)
    ∧ (∀ p ∈ (trip_k0_t1 (F := Ideal) 𝒱 c bd i arg1 harg1 arg2 harg2 arg3 harg3 arg4 harg4 arg5 harg5 arg6 harg6 arg7 harg7 arg8 harg8 arg9 harg9 k0_h1 (harg2.unread x1) k).2.1, p ∈ (pb_k0_t1 (F := Ideal) 𝒱 c bd i arg1 harg1 arg2 harg2 arg3 harg3 arg4 harg4 arg5 harg5 arg6 harg6 arg7 harg7 arg8 harg8 arg9 harg9 k0_h1 (harg2.unread x1) n).2.1)
    ∧ (∀ p ∈ (trip_k0_t1 (F := Ideal) 𝒱 c bd i arg1 harg1 arg2 harg2 arg3 harg3 arg4 harg4 arg5 harg5 arg6 harg6 arg7 harg7 arg8 harg8 arg9 harg9 k0_h1 (harg2.unread x1) k).2.2.1, p ∈ (pb_k0_t1 (F := Ideal) 𝒱 c bd i arg1 harg1 arg2 harg2 arg3 harg3 arg4 harg4 arg5 harg5 arg6 harg6 arg7 harg7 arg8 harg8 arg9 harg9 k0_h1 (harg2.unread x1) n).2.2) := by
  induction n with
  | zero => omega
  | succ n ih =>
    rw [pb_k0_t1_succ (F := Ideal) 𝒱 c bd i arg1 harg1 arg2 harg2 arg3 harg3 arg4 harg4 arg5 harg5 arg6 harg6 arg7 harg7 arg8 harg8 arg9 harg9 k0_h1 (harg2.unread x1) ⟨n, by omega⟩]
    rcases Nat.lt_or_ge k.val n with h | h
    · obtain ⟨h1, h2, h3⟩ := ih h (by omega)
      exact ⟨fun p hp => List.mem_append_right _ (h1 p hp), fun p hp => List.mem_append_right _ (h2 p hp), fun p hp => List.mem_append_right _ (h3 p hp)⟩
    · obtain rfl : n = k.val := by omega
      exact ⟨fun p hp => List.mem_append_left _ hp, fun p hp => List.mem_append_left _ hp, fun p hp => List.mem_append_left _ hp⟩

/-- After the loop the codes' buffer holds the codes. -/
theorem loop_codes (f : arg6.view.ty.Contents (Elt Ideal)) (n : Nat) (hn : n = k0_t1_loop.trips) :
    arg6.view.read (Elt Ideal) (arg6.view.writes (Elt Ideal) f (pb_k0_t1 (F := Ideal) 𝒱 c bd i arg1 harg1 arg2 harg2 arg3 harg3 arg4 harg4 arg5 harg5 arg6 harg6 arg7 harg7 arg8 harg8 arg9 harg9 k0_h1 (harg2.unread x1) n).1) = codesSpec x1 := by
  funext y
  have h0 : (y 0).val < 1152 := (y 0).isLt
  have ht : (y 0).val / 32 < k0_t1_loop.trips := by rw [trips_eq]; omega
  obtain ⟨p, hp, hy⟩ := trip_codes_cover 𝒱 c bd i arg1 harg1 arg2 harg2 arg3 harg3 arg4 harg4 arg5 harg5 arg6 harg6 arg7 harg7 arg8 harg8 arg9 harg9 k0_h1 x1 ⟨(y 0).val / 32, ht⟩ y (by constructor <;> dsimp only <;> omega)
  exact View.read_writes_apply_of_pieces (v := arg6.view) (f := f) (codesSpec x1) _ (loop_pieces 𝒱 c bd i arg1 harg1 arg2 harg2 arg3 harg3 arg4 harg4 arg5 harg5 arg6 harg6 arg7 harg7 arg8 harg8 arg9 harg9 k0_h1 x1 n hn.le).1.mem y
    ⟨p, (loop_mem 𝒱 c bd i arg1 harg1 arg2 harg2 arg3 harg3 arg4 harg4 arg5 harg5 arg6 harg6 arg7 harg7 arg8 harg8 arg9 harg9 k0_h1 x1 _ n (by omega) hn.le).1 p hp, hy⟩

/-- After the loop the scales' buffer holds the scales. -/
theorem loop_scale (f : arg7.view.ty.Contents (Elt Ideal)) (n : Nat) (hn : n = k0_t1_loop.trips) :
    arg7.view.read (Elt Ideal) (arg7.view.writes (Elt Ideal) f (pb_k0_t1 (F := Ideal) 𝒱 c bd i arg1 harg1 arg2 harg2 arg3 harg3 arg4 harg4 arg5 harg5 arg6 harg6 arg7 harg7 arg8 harg8 arg9 harg9 k0_h1 (harg2.unread x1) n).2.1) = scaleSpec x1 := by
  funext y
  have h0 : (y 0).val < 1152 := (y 0).isLt
  have ht : (y 0).val / 32 < k0_t1_loop.trips := by rw [trips_eq]; omega
  obtain ⟨p, hp, hy⟩ := trip_scale_cover 𝒱 c bd i arg1 harg1 arg2 harg2 arg3 harg3 arg4 harg4 arg5 harg5 arg6 harg6 arg7 harg7 arg8 harg8 arg9 harg9 k0_h1 x1 ⟨(y 0).val / 32, ht⟩ y (by constructor <;> dsimp only <;> omega)
  exact View.read_writes_apply_of_pieces (v := arg7.view) (f := f) (scaleSpec x1) _ (loop_pieces 𝒱 c bd i arg1 harg1 arg2 harg2 arg3 harg3 arg4 harg4 arg5 harg5 arg6 harg6 arg7 harg7 arg8 harg8 arg9 harg9 k0_h1 x1 n hn.le).2.1.mem y
    ⟨p, (loop_mem 𝒱 c bd i arg1 harg1 arg2 harg2 arg3 harg3 arg4 harg4 arg5 harg5 arg6 harg6 arg7 harg7 arg8 harg8 arg9 harg9 k0_h1 x1 _ n (by omega) hn.le).2.1 p hp, hy⟩

/-- After the loop the scratch holds the quantised activations. -/
theorem loop_xs (f : arg8.view.ty.Contents (Elt Ideal)) (n : Nat) (hn : n = k0_t1_loop.trips) :
    arg8.view.read (Elt Ideal) (arg8.view.writes (Elt Ideal) f (pb_k0_t1 (F := Ideal) 𝒱 c bd i arg1 harg1 arg2 harg2 arg3 harg3 arg4 harg4 arg5 harg5 arg6 harg6 arg7 harg7 arg8 harg8 arg9 harg9 k0_h1 (harg2.unread x1) n).2.2) = xsSpec x1 := by
  funext y
  have h0 : (y 0).val < 1152 := (y 0).isLt
  have ht : (y 0).val / 32 < k0_t1_loop.trips := by rw [trips_eq]; omega
  obtain ⟨p, hp, hy⟩ := trip_xs_cover 𝒱 c bd i arg1 harg1 arg2 harg2 arg3 harg3 arg4 harg4 arg5 harg5 arg6 harg6 arg7 harg7 arg8 harg8 arg9 harg9 k0_h1 x1 ⟨(y 0).val / 32, ht⟩ y (by constructor <;> dsimp only <;> omega)
  exact View.read_writes_apply_of_pieces (v := arg8.view) (f := f) (xsSpec x1) _ (loop_pieces 𝒱 c bd i arg1 harg1 arg2 harg2 arg3 harg3 arg4 harg4 arg5 harg5 arg6 harg6 arg7 harg7 arg8 harg8 arg9 harg9 k0_h1 x1 n hn.le).2.2.mem y
    ⟨p, (loop_mem 𝒱 c bd i arg1 harg1 arg2 harg2 arg3 harg3 arg4 harg4 arg5 harg5 arg6 harg6 arg7 harg7 arg8 harg8 arg9 harg9 k0_h1 x1 _ n (by omega) hn.le).2.2 p hp, hy⟩

end

end Cert.KernelIdeal.Gen

end
-- ==== Proof.Ideal.RunAN.lean ====
module

public import proofs.«01_k».proof.Proof.Ideal.RunBN
public import proofs.«01_k».proof.Proof.Ideal.Loop

@[expose] public section

/-! The body's run at grid point 0, where the activations are quantised, over the extended reals: what it leaves in its three results and in the scratch. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 4000000 in
/-- At the first grid point the body quantises the activations `x1`, leaving their codes, their scales and, in the
    scratch, their quantised values; and it leaves the block of `y` of its weight rows. -/
theorem runAN (c : Dev nD) (i : grid0.Coords) (arg1 : Memref sig .tc .smem S1 .f32) (harg1 : arg1.IsWhole) (arg2 : Memref sig .tc .vmem S1152x1536 .bf16) (harg2 : arg2.IsWhole) (arg3 : Memref sig .tc .vmem S1792x768 .i8) (harg3 : arg3.IsWhole) (arg4 : Memref sig .tc .vmem S1792x96 .fp8e4m3) (harg4 : arg4.IsWhole) (arg5 : Memref sig .tc .vmem S1152x1792 .bf16) (harg5 : arg5.IsWhole) (arg6 : Memref sig .tc .vmem S1152x1536 .fp8e4m3) (harg6 : arg6.IsWhole) (arg7 : Memref sig .tc .vmem S1152x48 .f32) (harg7 : arg7.IsWhole) (arg8 : Memref sig .tc .vmem S1152x1536 .bf16) (harg8 : arg8.IsWhole) (arg9 : Memref sig .tc .vmem S1792x1536 .bf16) (harg9 : arg9.IsWhole) (hc0 : cond0_0 i)
    (x0 : Vec Ideal S1 .f32) (x1 : Vec Ideal S1152x1536 .bf16) (x2 : Vec Ideal S1792x768 .i8) (x3 : Vec Ideal S1792x96 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (ySpec (x0 (ix1 0)) (xsSpec x1) (wdG x2 x3)) ∗ owns (c : Thread nD τ) arg6 fullShare (codesSpec x1) ∗ owns (c : Thread nD τ) arg7 fullShare (scaleSpec x1) ∗ owns (c : Thread nD τ) arg8 fullShare (xsSpec x1) ∗ (∃ d, owns (c : Thread nD τ) arg9 fullShare d)) -∗ K ⟨⟩))
          ⊢ wp frame (wpE (defs₀ (F := Ideal)) Variants.none c none) E (cc0_nvfp4_matmul i arg1 harg1 arg2 harg2 arg3 harg3 arg4 harg4 arg5 harg5 arg6 harg6 arg7 harg7 arg8 harg8 arg9 harg9) K := by
    intro E K
    simp only [cc0_nvfp4_matmul_eq_skeleton]; unfold cc0_nvfp4_matmul_skel
    simp only [k0_part69_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (y_block arg5 f4 (runB.sl.r c arg1 harg1 x0) _ (wdG x2 x3) _ _ _ _ _ _ _ (wd_load_0 c arg3 harg3 arg4 harg4 arg9 x2 x3) (wd_load_1 c arg3 harg3 arg4 harg4 arg9 x2 x3) (wd_load_2 c arg3 harg3 arg4 harg4 arg9 x2 x3) (wd_load_3 c arg3 harg3 arg4 harg4 arg9 x2 x3) (wd_load_4 c arg3 harg3 arg4 harg4 arg9 x2 x3) (wd_load_5 c arg3 harg3 arg4 harg4 arg9 x2 x3) (wd_load_6 c arg3 harg3 arg4 harg4 arg9 x2 x3)).trans ?_
      rw [runB_r]
      exact congrArg (fun z => ySpec (x0 (ix1 0)) z (wdG x2 x3)) ((xs_load arg8 _).trans (loop_xs Variants.none c none i arg1 harg1 arg2 harg2 arg3 harg3 arg4 harg4 arg5 harg5 arg6 harg6 arg7 harg7 arg8 harg8 arg9 harg9 hc0 x1 fs0 _ rfl))
    isplitl [H5]
    · iexists _; isplitr; swap; · iexact H5
      ipureintro; exact loop_codes Variants.none c none i arg1 harg1 arg2 harg2 arg3 harg3 arg4 harg4 arg5 harg5 arg6 harg6 arg7 harg7 arg8 harg8 arg9 harg9 hc0 x1 f5 _ rfl
    isplitl [H6]
    · iexists _; isplitr; swap; · iexact H6
      ipureintro; exact loop_scale Variants.none c none i arg1 harg1 arg2 harg2 arg3 harg3 arg4 harg4 arg5 harg5 arg6 harg6 arg7 harg7 arg8 harg8 arg9 harg9 hc0 x1 f6 _ rfl
    isplitl [HS0]
    · iexists _; isplitr; swap; · iexact HS0
      ipureintro; exact loop_xs Variants.none c none i arg1 harg1 arg2 harg2 arg3 harg3 arg4 harg4 arg5 harg5 arg6 harg6 arg7 harg7 arg8 harg8 arg9 harg9 hc0 x1 fs0 _ rfl
    iexists _, _; isplitr; swap; · iexact HS1
    ipureintro; rfl

end Cert.KernelIdeal.Gen

end
-- ==== Proof.Ideal.Point.lean ====
module

public import proofs.«01_k».proof.Proof.Ideal.RunAN
public import Idealize.ShloMosaic.Lib.Claim
public import Idealize.ShloMosaic.Lib.Pipeline.TableIdle

@[expose] public section

/-! The kernel over the extended reals, point by point: what its arrays end holding; and its frame. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The activations, as the region finds them. -/
def X1 (c : Dev nD) : Vec Ideal S1152x1536 .bf16 := iblk m c 1 ⟨0, by show 0 < grid0.N; rw [N_0]; decide⟩

/-- Their window's block is the same at every point. -/
theorem iblk1 (c : Dev nD) (t : Fin cfg0.N) : iblk m c 1 t = X1 m c := rfl

/-- What the body's scratch holds before point `n`: anything before the first, afterwards the quantised activations. -/
def PhiN (c : Dev nD) : Nat → sProp 𝕄
  | 0 => Pipeline.ΦA spec0 c
  | _ + 1 => iprop(iprop(owns (c : Thread nD τ) scM0_0 fullShare (xsSpec (X1 m c)) ∗ (∃ d, owns (c : Thread nD τ) scM0_1 fullShare d)) ∗ (∃ r, prngReg c r))

/-- After the first point: the quantised activations. -/
theorem PhiN_succ (c : Dev nD) (n : Nat) : PhiN m c (n + 1)
    = iprop(iprop(owns (c : Thread nD τ) scM0_0 fullShare (xsSpec (X1 m c)) ∗ (∃ d, owns (c : Thread nD τ) scM0_1 fullShare d)) ∗ (∃ r, prngReg c r)) := rfl

/-- The proof data of the pipeline on core `c`: after the body at point `t` each input's buffer holds its block, the
    buffer of `y` its product's block, and the codes' and the scales' buffers the codes and the scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ySpec (iblk m c 0 t (ix1 0)) (xsSpec (X1 m c)) (wdG (iblk m c 2 t) (iblk m c 3 t))
    | ⟨5, _⟩ => codesSpec (X1 m c)
    | ⟨6, _⟩ => scaleSpec (X1 m c)
  Φ t := PhiN m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = ySpec (iblk m c 0 t (ix1 0)) (xsSpec (X1 m c)) (wdG (iblk m c 2 t) (iblk m c 3 t)) := by dsimp only [dats]
theorem after0_5 (c : Dev nD) (t : Fin cfg0.N) : (dats m 0 c).after 5 t = codesSpec (X1 m c) := by dsimp only [dats]
theorem after0_6 (c : Dev nD) (t : Fin cfg0.N) : (dats m 0 c).after 6 t = scaleSpec (X1 m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and the scales' buffers are stored at the first point, and written back after the last. -/
theorem fresh_5 : ∀ t : Fin cfg0.N, t.val ≠ 0 → cfg0.fresh 5 t.val = false := by decide +kernel
theorem fresh_6 : ∀ t : Fin cfg0.N, t.val ≠ 0 → cfg0.fresh 6 t.val = false := by decide +kernel

theorem before0_5 (c : Dev nD) (t : Fin cfg0.N) (ht : t.val ≠ 0) (d) : (dats m 0 c).before 5 t d = codesSpec (X1 m c) := by
  rw [(dats m 0 c).before_out_traj 5 rfl (fun _ _ => rfl) (fun t ht _ _ => by rw [after0_5, after0_5]) t.val t rfl d,
    if_neg (by rw [fresh_5 t ht]; exact Bool.false_ne_true), after0_5]

theorem before0_6 (c : Dev nD) (t : Fin cfg0.N) (ht : t.val ≠ 0) (d) : (dats m 0 c).before 6 t d = scaleSpec (X1 m c) := by
  rw [(dats m 0 c).before_out_traj 6 rfl (fun _ _ => rfl) (fun t ht _ _ => by rw [after0_6, after0_6]) t.val t rfl d,
    if_neg (by rw [fresh_6 t ht]; exact Bool.false_ne_true), after0_6]

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The buffer, holding its results, is as the pipeline expects it at every point. -/
theorem leaves0_5 (c : Dev nD) (t : Fin cfg0.N) : owns (c : Thread nD τ) (ms0_5 t) fullShare (codesSpec (X1 m c)) ⊢ ((dats m 0 c).leavesExact 5 t : sProp 𝕄) := by
  have e := after0_5 m c t
  unfold Dat.leavesExact
  cases hi : cfg0.idle 5 (cfg0.grid.coords t)
  · dsimp only; rw [e]
  · have ht : t.val ≠ 0 := fun h => by
      have hc := (hcond0_0 t).mpr (by rw [h])
      have : (!(k0_cond1 (grid0.coords t) == 1#1)) = true := hi
      rw [show k0_cond1 (grid0.coords t) = 1#1 from hc] at this
      exact absurd this (by decide)
    cases hf : (cfg0.win 5).flush t
    · dsimp only
      iintro H
      iexists (Classical.arbitrary _)
      rw [before0_5 m c t ht]
      iexact H
    · dsimp only; rw [e]

/-- The buffer, holding its results, is as the pipeline expects it at every point. -/
theorem leaves0_6 (c : Dev nD) (t : Fin cfg0.N) : owns (c : Thread nD τ) (ms0_6 t) fullShare (scaleSpec (X1 m c)) ⊢ ((dats m 0 c).leavesExact 6 t : sProp 𝕄) := by
  have e := after0_6 m c t
  unfold Dat.leavesExact
  cases hi : cfg0.idle 6 (cfg0.grid.coords t)
  · dsimp only; rw [e]
  · have ht : t.val ≠ 0 := fun h => by
      have hc := (hcond0_0 t).mpr (by rw [h])
      have : (!(k0_cond1 (grid0.coords t) == 1#1)) = true := hi
      rw [show k0_cond1 (grid0.coords t) = 1#1 from hc] at this
      exact absurd this (by decide)
    cases hf : (cfg0.win 6).flush t
    · dsimp only
      iintro H
      iexists (Classical.arbitrary _)
      rw [before0_6 m c t ht]
      iexact H
    · dsimp only; rw [e]

set_option maxHeartbeats 1600000 in
/-- The body at any point: the first quantises, the later ones find the quantised activations in the scratch. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  have hN : t.val < 5 := lt_of_lt_of_eq t.isLt (show cfg0.N = 5 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from rfl, after0_4]
  have hl5 := leaves0_5 m c t
  have hl6 := leaves0_6 m c t
  by_cases h0 : t.val % 5 = 0
  · have ht : t.val = 0 := by omega
    rw [show PhiN m c t.val = Pipeline.ΦA spec0 c from by rw [ht]; rfl, PhiA0_eq, PhiN_succ]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runAN c (grid0.coords t) _ (hs0_0 t) _ (hs0_1 t) _ (hs0_2 t) _ (hs0_3 t) _ (hs0_4 t) _ (hs0_5 t) _ (hs0_6 t) _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply hl5; iexact H5
    iapply hl6; iexact H6
  · have ht : t.val ≠ 0 := fun h => h0 (by rw [h])
    obtain ⟨n, hn⟩ := Nat.exists_eq_succ_of_ne_zero ht
    rw [show PhiN m c t.val = PhiN m c (t.val + 1) from by rw [hn]; rfl, PhiN_succ]
    simp only [before0_5 m c t ht, before0_6 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (runBN c (grid0.coords t) _ (hs0_0 t) _ (hs0_1 t) _ (hs0_2 t) _ (hs0_3 t) _ (hs0_4 t) _ (hs0_5 t) _ (hs0_6 t) _ _ _ _ (fun h => h0 ((hcond0_0 t).mp h)) (iblk m c 0 t) (iblk m c 1 t) (iblk m c 2 t) (iblk m c 3 t) (xsSpec (X1 m c)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply hl5; iexact H5
    iapply hl6; iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

/-- Before the first point the scratch holds anything, -/
theorem Phi_in (c : Dev nD) : Pipeline.ΦA spec0 c ⊢ ((dats m 0 c).Φ 0 : sProp 𝕄) := .rfl

/-- and after the last point what it holds is forgotten. -/
theorem Phi_out (c : Dev nD) : ((dats m 0 c).Φ (Fin.last cfg0.N) : sProp 𝕄) ⊢ Pipeline.ΦA spec0 c := by
  rw [show (dats m 0 c).Φ (Fin.last cfg0.N) = PhiN m c cfg0.N from rfl, show cfg0.N = 5 from N_0, PhiA0_eq]
  show iprop(iprop(owns (c : Thread nD τ) scM0_0 fullShare (xsSpec (X1 m c)) ∗ (∃ d, owns (c : Thread nD τ) scM0_1 fullShare d)) ∗ (∃ r, prngReg c r)) ⊢ _
  iintro ⟨⟨HS0, HS1⟩, Hg⟩
  isplitl [HS0 HS1]
  · isplitl [HS0]
    · iexists _; iexact HS0
    iexact HS1
  iexact Hg

-- `θ_run_frame_track`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- Every execution of @main ends with every array of the pipeline at what the proof data says, and every other
    unscoped buffer as the region found it. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the kernel terminates, its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Ideal.Final.lean ====
module

public import proofs.«01_k».proof.Proof.Ideal.Point
public import Idealize.ShloMosaic.Lib.Pipeline.Value
public import Idealize.ShloMosaic.Lib.StableHlo.RunRead
public import Idealize.ShloMosaic.Lib.Pointwise

@[expose] public section

/-! The kernel's three result arrays after the run, as functions of its arguments. -/

set_option maxRecDepth 16384

noncomputable section

namespace Cert.KernelIdeal.Gen

open Cert.KernelIdeal Idealize.ShloMosaic Idealize.ShloMosaic.TcCoe Idealize.ShloMosaic.Tactic
open Idealize.ShloMosaic.Pipeline (Dat)

variable (m : (ℓ : Loc nD τ sig) → Buf (Elt Ideal) ℓ)

/-- The activations as a matrix. -/
theorem X1_eq (c : Dev nD) : X1 m c = shapeCast S1152x1536 (m ((c : Thread nD τ).loc main_arg0) : Vec Ideal S3x384x1536 .bf16) shapeCasts_S3x384x1536_S1152x1536 := by
  have hz' : (fun a => win0_1.index t0_0 a * main_v1.ty.shape.size a) = fun _ => 0 := funext fun a => by fin_cases a <;> decide
  refine (Memref.read_access_unit_zero (Elt Ideal) main_v1 hz' (fun a => by rw [congrFun hz' a]; simp) (V m c main_v1)).trans ?_
  after_reads_simp
  rfl

theorem mat_at (A : FVec Ideal S3x384x1536 .bf16) (R : Fin 1152) (C : Fin 1536) :
    (shapeCast S1152x1536 A shapeCasts_S3x384x1536_S1152x1536 (ix2 R C) : EReal)
      = A (ix3 (⟨R.val / 384, by omega⟩ : Fin 3) (⟨R.val % 384, by omega⟩ : Fin 384) C) := by
  pointwise

theorem X1_at (c : Dev nD) (R : Fin 1152) (C : Fin 1536) : (X1 m c (ix2 R C) : EReal)
    = (m ((c : Thread nD τ).loc main_arg0) : Vec Ideal S3x384x1536 .bf16) (ix3 (⟨R.val / 384, by omega⟩ : Fin 3) (⟨R.val % 384, by omega⟩ : Fin 384) C) :=
  (congrFun (X1_eq m c) (ix2 R C)).trans (mat_at _ R C)

/-- The global scale. -/
theorem iblk0_at (c : Dev nD) (t : Fin cfg0.N) : (iblk m c 0 t (ix1 0) : EReal) = (m ((c : Thread nD τ).loc main_arg3) : Vec Ideal S_ .f32) (fun a => a.elim0) := by
  have e : (iblk m c 0 t : Vec Ideal S1 .f32) = shapeCast S1 (m ((c : Thread nD τ).loc main_arg3) : Vec Ideal S_ .f32) shapeCasts_S_S1 := by
    have hz' : (fun a => win0_0.index t a * main_v0.ty.shape.size a) = fun _ => 0 := by
      rcases fin_N0 t with rfl | rfl | rfl | rfl | rfl <;> exact funext fun a => by fin_cases a; decide
    refine (Memref.read_access_unit_zero (Elt Ideal) main_v0 hz' (fun a => by rw [congrFun hz' a]; simp) (V m c main_v0)).trans ?_
    after_reads_simp
    rfl
  rw [e]
  generalize (m ((c : Thread nD τ).loc main_arg3) : Vec Ideal S_ .f32) = A
  show A _ = A _
  exact congrArg A (funext fun a => a.elim0)

theorem idx_facts (t : Fin cfg0.N) : win0_2.index t 0 = t.val ∧ win0_2.index t 1 = 0 ∧ win0_3.index t 0 = t.val ∧ win0_3.index t 1 = 0
    ∧ win0_4.index t 0 = 0 ∧ win0_4.index t 1 = t.val := by
  rcases fin_N0 t with rfl | rfl | rfl | rfl | rfl <;> decide

theorem row_lt (t : Fin cfg0.N) (r : Fin 1792) : 1792 * t.val + r.val < 8960 := by
  have : t.val < 5 := lt_of_lt_of_eq t.isLt (show cfg0.N = 5 from N_0)
  omega

/-- A grid point's rows of the packed weights. -/
theorem iblk2_at (c : Dev nD) (t : Fin cfg0.N) (r : Fin 1792) (l : Fin 768) :
    (iblk m c 2 t : Vec Ideal S1792x768 .i8) (ix2 r l) = (m ((c : Thread nD τ).loc main_arg1) : Vec Ideal S8960x768 .i8) (ix2 ⟨1792 * t.val + r.val, row_lt t r⟩ l) := by
  have hi := idx_facts t
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_2.index t 0 * 1792 + 1 * r.val = 1792 * t.val + r.val; rw [hi.1]; omega
  | ⟨1, _⟩ => show win0_2.index t 1 * 768 + 1 * l.val = l.val; rw [hi.2.1]; omega

/-- A grid point's rows of the weights' scales. -/
theorem iblk3_at (c : Dev nD) (t : Fin cfg0.N) (r : Fin 1792) (l : Fin 96) :
    (iblk m c 3 t : Vec Ideal S1792x96 .fp8e4m3) (ix2 r l) = (m ((c : Thread nD τ).loc main_arg2) : Vec Ideal S8960x96 .fp8e4m3) (ix2 ⟨1792 * t.val + r.val, row_lt t r⟩ l) := by
  have hi := idx_facts t
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_3.index t 0 * 1792 + 1 * r.val = 1792 * t.val + r.val; rw [hi.2.2.1]; omega
  | ⟨1, _⟩ => show win0_3.index t 1 * 96 + 1 * l.val = l.val; rw [hi.2.2.2.1]; omega

/-- A decoded weight, in the kernel's column order, by its row in the whole array. -/
def wAll (W : Vec Ideal S8960x768 .i8) (S : Vec Ideal S8960x96 .fp8e4m3) (N : Fin 8960) (k : Fin 1536) : EReal :=
  Ideal.ofBits .fp8e4m3 (if k.val < 768 then patLo (W (ix2 N (⟨k.val % 768, Nat.mod_lt _ (by decide)⟩ : Fin 768)))
    else patHi (W (ix2 N (⟨k.val % 768, Nat.mod_lt _ (by decide)⟩ : Fin 768))))
  * ((S (ix2 N (⟨k.val % 768 / 8, by omega⟩ : Fin 96)) : EReal) * Ideal.ofBits .bf16 0x4280#16)

theorem wdG_at (c : Dev nD) (t : Fin cfg0.N) (r : Fin 1792) (k : Fin 1536) :
    (wdG (iblk m c 2 t) (iblk m c 3 t) (ix2 r k) : EReal)
      = wAll (m ((c : Thread nD τ).loc main_arg1)) (m ((c : Thread nD τ).loc main_arg2)) ⟨1792 * t.val + r.val, row_lt t r⟩ k := by
  unfold wAll
  rw [← iblk2_at m c t r ⟨k.val % 768, Nat.mod_lt _ (by decide)⟩, ← iblk3_at m c t r ⟨k.val % 768 / 8, by omega⟩]
  rfl

/-- The product, as the kernel leaves it. -/
def yK (c : Dev nD) : Vec Ideal S1152x8960 .bf16 := fun y =>
  ((∑ k : Fin 1536, (xsSpec (X1 m c) (ix2 (y 0) k) : EReal) * wAll (m ((c : Thread nD τ).loc main_arg1)) (m ((c : Thread nD τ).loc main_arg2)) (y 1) k)
    * (m ((c : Thread nD τ).loc main_arg3) : Vec Ideal S_ .f32) (fun a => a.elim0) : EReal)

theorem yK_block (c : Dev nD) (t : Fin cfg0.N) (j : S1152x1792.Idx) :
    ySpec (iblk m c 0 t (ix1 0)) (xsSpec (X1 m c)) (wdG (iblk m c 2 t) (iblk m c 3 t)) j
      = yK m c (ix2 (j 0) (⟨1792 * t.val + (j 1).val, row_lt t (j 1)⟩ : Fin 8960)) := by
  show (∑ k : Fin 1536, (xsSpec (X1 m c) (ix2 (j 0) k) : EReal) * (wdG (iblk m c 2 t) (iblk m c 3 t) (ix2 (j 1) k) : EReal)) * (iblk m c 0 t (ix1 0) : EReal) = _
  rw [iblk0_at]
  refine congrArg (fun z : EReal => z * _) (Finset.sum_congr rfl fun k _ => ?_)
  exact congrArg (fun z : EReal => _ * z) (wdG_at m c t (j 1) k)

theorem flushed_4 (c : Dev nD) (t : Fin cfg0.N) (hf : (cfg0.win 4).flush t = true) :
    (dats m 0 c).flushed 4 t = ((cfg0.win 4).blk t).view.read (Elt Ideal) (yK m c : Buf (Elt Ideal) ((c : Thread nD τ).loc main_v2_0)) := by
  have hi := idx_facts t
  show (cfg0.win 4).cut (grid0.coords t) ((dats m 0 c).after 4 t) = _
  rw [after0_4]
  funext j
  rw [View.read_apply]
  refine (yK_block m c t j).trans ?_
  show yK m c _ = yK m c _
  refine congrArg (yK m c) (funext fun a => Fin.ext ?_)
  match a with
  | ⟨0, _⟩ => show (j 0).val = win0_4.index t 0 * 1152 + 1 * (j 0).val; rw [hi.2.2.2.2.1]; omega
  | ⟨1, _⟩ => show 1792 * t.val + (j 1).val = win0_4.index t 1 * 1792 + 1 * (j 1).val; rw [hi.2.2.2.2.2]; omega

theorem final_4 (c : Dev nD) : (dats m 0 c).arrAt 4 cfg0.N = (yK m c : Buf (Elt Ideal) ((c : Thread nD τ).loc main_v2_0)) :=
  (dats m 0 c).arrAt_eq_of_cover 4 _ (flushed_4 m c) fun i => by
    have h0 : (i 0 : Nat) < 1152 := (i 0).isLt
    have h1 : (i 1 : Nat) < 8960 := (i 1).isLt
    have ht : (i 1 : Nat) / 1792 < grid0.N := by rw [N_0]; omega
    have hi := idx_facts ⟨(i 1 : Nat) / 1792, ht⟩
    refine ⟨⟨(i 1 : Nat) / 1792, ht⟩, flush0_4 _, ?_⟩
    show i ∈ ((View.whole main_v2_0).slice (win0_4.rect ⟨(i 1 : Nat) / 1792, ht⟩)).set
    rw [View.set_slice_whole, Rect.mem_set_unit]
    intro a
    match a with
    | ⟨0, _⟩ => show win0_4.index ⟨(i 1 : Nat) / 1792, ht⟩ 0 * 1152 ≤ (i 0 : Nat) ∧ (i 0 : Nat) < win0_4.index ⟨(i 1 : Nat) / 1792, ht⟩ 0 * 1152 + 1152
                rw [hi.2.2.2.2.1]; omega
    | ⟨1, _⟩ => show win0_4.index ⟨(i 1 : Nat) / 1792, ht⟩ 1 * 1792 ≤ (i 1 : Nat) ∧ (i 1 : Nat) < win0_4.index ⟨(i 1 : Nat) / 1792, ht⟩ 1 * 1792 + 1792
                rw [hi.2.2.2.2.2]; dsimp only; omega

theorem flushed_5 (c : Dev nD) (t : Fin cfg0.N) (hf : (cfg0.win 5).flush t = true) :
    (dats m 0 c).flushed 5 t = ((cfg0.win 5).blk t).view.read (Elt Ideal) (codesSpec (X1 m c) : Buf (Elt Ideal) ((c : Thread nD τ).loc main_v2_1)) := by
  have h4 : t.val = 4 := by have := (flush0_5 t).mp hf; have : t.val < 5 := lt_of_lt_of_eq t.isLt (show cfg0.N = 5 from N_0); omega
  obtain rfl : t = t0_4 := Fin.ext h4
  show (cfg0.win 5).cut (grid0.coords t0_4) ((dats m 0 c).after 5 t0_4) = _
  rw [after0_5]
  have hz' : (fun a => win0_5.index t0_4 a * main_v2_1.ty.shape.size a) = fun _ => 0 := funext fun a => by fin_cases a <;> decide
  exact (Memref.read_access_unit_zero (Elt Ideal) main_v2_1 hz' (fun a => by rw [congrFun hz' a]; simp) (codesSpec (X1 m c))).symm

theorem flushed_6 (c : Dev nD) (t : Fin cfg0.N) (hf : (cfg0.win 6).flush t = true) :
    (dats m 0 c).flushed 6 t = ((cfg0.win 6).blk t).view.read (Elt Ideal) (scaleSpec (X1 m c) : Buf (Elt Ideal) ((c : Thread nD τ).loc main_v2_2)) := by
  have h4 : t.val = 4 := by have := (flush0_6 t).mp hf; have : t.val < 5 := lt_of_lt_of_eq t.isLt (show cfg0.N = 5 from N_0); omega
  obtain rfl : t = t0_4 := Fin.ext h4
  show (cfg0.win 6).cut (grid0.coords t0_4) ((dats m 0 c).after 6 t0_4) = _
  rw [after0_6]
  have hz' : (fun a => win0_6.index t0_4 a * main_v2_2.ty.shape.size a) = fun _ => 0 := funext fun a => by fin_cases a <;> decide
  exact (Memref.read_access_unit_zero (Elt Ideal) main_v2_2 hz' (fun a => by rw [congrFun hz' a]; simp) (scaleSpec (X1 m c))).symm

theorem final_5 (c : Dev nD) : (dats m 0 c).arrAt 5 cfg0.N = (codesSpec (X1 m c) : Buf (Elt Ideal) ((c : Thread nD τ).loc main_v2_1)) :=
  (dats m 0 c).arrAt_eq_of_cover 5 _ (flushed_5 m c) fun i =>
    ⟨t0_4, (flush0_5 t0_4).mpr rfl, by
      show i ∈ ((View.whole main_v2_1).slice (win0_5.rect t0_4)).set
      rw [View.set_slice_whole, Rect.mem_set_unit]
      intro a
      have h0 : (i 0 : Nat) < 1152 := (i 0).isLt
      have h1 : (i 1 : Nat) < 1536 := (i 1).isLt
      match a with
      | ⟨0, _⟩ => show win0_5.index t0_4 0 * win0_5.size 0 ≤ (i 0 : Nat) ∧ (i 0 : Nat) < win0_5.index t0_4 0 * win0_5.size 0 + win0_5.xsize (grid0.coords t0_4) 0
                  rw [show win0_5.index t0_4 0 * win0_5.size 0 = 0 from by decide +kernel, show win0_5.xsize (grid0.coords t0_4) 0 = 1152 from by decide +kernel]; omega
      | ⟨1, _⟩ => show win0_5.index t0_4 1 * win0_5.size 1 ≤ (i 1 : Nat) ∧ (i 1 : Nat) < win0_5.index t0_4 1 * win0_5.size 1 + win0_5.xsize (grid0.coords t0_4) 1
                  rw [show win0_5.index t0_4 1 * win0_5.size 1 = 0 from by decide +kernel, show win0_5.xsize (grid0.coords t0_4) 1 = 1536 from by decide +kernel]; omega⟩

theorem final_6 (c : Dev nD) : (dats m 0 c).arrAt 6 cfg0.N = (scaleSpec (X1 m c) : Buf (Elt Ideal) ((c : Thread nD τ).loc main_v2_2)) :=
  (dats m 0 c).arrAt_eq_of_cover 6 _ (flushed_6 m c) fun i =>
    ⟨t0_4, (flush0_6 t0_4).mpr rfl, by
      show i ∈ ((View.whole main_v2_2).slice (win0_6.rect t0_4)).set
      rw [View.set_slice_whole, Rect.mem_set_unit]
      intro a
      have h0 : (i 0 : Nat) < 1152 := (i 0).isLt
      have h1 : (i 1 : Nat) < 48 := (i 1).isLt
      match a with
      | ⟨0, _⟩ => show win0_6.index t0_4 0 * win0_6.size 0 ≤ (i 0 : Nat) ∧ (i 0 : Nat) < win0_6.index t0_4 0 * win0_6.size 0 + win0_6.xsize (grid0.coords t0_4) 0
                  rw [show win0_6.index t0_4 0 * win0_6.size 0 = 0 from by decide +kernel, show win0_6.xsize (grid0.coords t0_4) 0 = 1152 from by decide +kernel]; omega
      | ⟨1, _⟩ => show win0_6.index t0_4 1 * win0_6.size 1 ≤ (i 1 : Nat) ∧ (i 1 : Nat) < win0_6.index t0_4 1 * win0_6.size 1 + win0_6.xsize (grid0.coords t0_4) 1
                  rw [show win0_6.index t0_4 1 * win0_6.size 1 = 0 from by decide +kernel, show win0_6.xsize (grid0.coords t0_4) 1 = 48 from by decide +kernel]; omega⟩

end Cert.KernelIdeal.Gen

end
-- ==== Proof.Ref.Ops.lean ====
module

public import proofs.«01_k».proof.Proof.Gen.ReferenceIdeal.Value
public import Idealize.ShloMosaic.Lib.Pointwise
public import Idealize.ShloMosaic.Lib.Tactic.CleanTypes

/-! What the host operations of the reference compute, as named arrays over its arguments, and their entries. -/

@[expose] public section

set_option maxRecDepth 16384

noncomputable section

namespace Cert.ReferenceIdeal.Gen

open Cert.ReferenceIdeal Idealize.ShloMosaic Idealize.ShloMosaic.TcCoe Idealize.ShloMosaic.Tactic

/-- The activations in groups of 32. -/
def o1 (A : FVec Ideal S3x384x1536 .bf16) : FVec Ideal S1152x48x32 .f32 :=
  shapeCast S1152x48x32 (extf .f32 A bitsLt_bf16_f32 : FVec Ideal S3x384x1536 .f32) shapeCasts_S3x384x1536_S1152x48x32
/-- The greatest magnitude of each group times 1/448. -/
def o5 (v : FVec Ideal S1152x48x32 .f32) : FVec Ideal S1152x48 .f32 :=
  mulf (Host.reduce FloatOps.maximumf (Host.absf v) (constant S_ .f32 0xFF800000#32) reducesTo_S1152x48x32_S1152x48_d2 h_S_)
    (broadcastInDim S1152x48 ![] bcast_S_S1152x48 (constant S_ .f32 0x3B124925#32))
/-- Numbers below the smallest normal number replaced by zero. -/
def o8 (v : FVec Ideal S1152x48 .f32) : FVec Ideal S1152x48 .f32 :=
  select (cmpf .olt v (broadcastInDim S1152x48 ![] bcast_S_S1152x48 (constant S_ .f32 0x00800000#32)))
    (broadcastInDim S1152x48 ![] bcast_S_S1152x48 (constant S_ .f32 0x00000000#32)) v
/-- The logarithm of two. -/
def o10 : FVec Ideal S1152x48 .f32 :=
  Host.log (broadcastInDim S1152x48 ![] bcast_S_S1152x48 (constant S_ .f32 0x40000000#32))
/-- The exponent. -/
def o18 (v : FVec Ideal S1152x48 .f32) : FVec Ideal S1152x48 .f32 :=
  select (cmpf .oeq v (broadcastInDim S1152x48 ![] bcast_S_S1152x48 (constant S_ .f32 0x00000000#32)))
    (broadcastInDim S1152x48 ![] bcast_S_S1152x48 (constant S_ .f32 0x00000000#32))
    (addf (Host.floor (Host.divf (Host.log v) o10))
      (broadcastInDim S1152x48 ![] bcast_S_S1152x48 (constant S_ .f32 0x3F800000#32)))
/-- The scale. -/
def o20 (e : FVec Ideal S1152x48 .f32) : FVec Ideal S1152x48 .f32 := Host.exp (mulf e o10)
/-- The inverse scale. -/
def o23 (e : FVec Ideal S1152x48 .f32) : FVec Ideal S1152x48 .f32 := Host.exp (mulf (Host.negf e) o10)
/-- The clipped codes. -/
def o28 (v : FVec Ideal S1152x48x32 .f32) (e : FVec Ideal S1152x48 .f32) : FVec Ideal S1152x1536 .f32 :=
  shapeCast S1152x1536
    (minimumf (broadcastInDim S1152x48x32 ![] bcast_S_S1152x48x32 (constant S_ .f32 0x43E00000#32))
      (maximumf (broadcastInDim S1152x48x32 ![] bcast_S_S1152x48x32 (constant S_ .f32 0xC3E00000#32))
        (mulf v (broadcastInDim S1152x48x32 ![0, 1, 2] bcast_S1152x48x1_S1152x48x32_0_1_2
          (broadcastInDim S1152x48x1 ![0, 1] bcast_S1152x48_S1152x48x1_0_1 (o23 e)))))
      : FVec Ideal S1152x48x32 .f32) shapeCasts_S1152x48x32_S1152x1536
/-- The scale at each activation. -/
def o31 (s : FVec Ideal S1152x48 .f32) : FVec Ideal S1152x1536 .bf16 :=
  shapeCast S1152x1536
    (broadcastInDim S1152x48x32 ![0, 1] bcast_S1152x48_S1152x48x32_0_1 (truncf .bf16 s bitsLt_bf16_f32 : FVec Ideal S1152x48 .bf16)
      : FVec Ideal S1152x48x32 .bf16) shapeCasts_S1152x48x32_S1152x1536
/-- The low nibbles. -/
def o37 (W : Vec Ideal S8960x768 .i8) : Vec Ideal S8960x768x1 .i32 :=
  broadcastInDim S8960x768x1 ![0, 1] bcast_S8960x768_S8960x768x1_0_1
    (andi (extui 32 W natLt_8_32) (broadcastInDim S8960x768 ![] bcast_S_S8960x768 (constantI S_ 32 15#32)) : IVec S8960x768 32)
/-- The high nibbles. -/
def o38 (W : Vec Ideal S8960x768 .i8) : Vec Ideal S8960x768x1 .i32 :=
  broadcastInDim S8960x768x1 ![0, 1] bcast_S8960x768_S8960x768x1_0_1
    (Host.shrsi (extui 32 W natLt_8_32) (broadcastInDim S8960x768 ![] bcast_S_S8960x768 (constantI S_ 32 4#32)) : IVec S8960x768 32)
/-- The nibbles in the order of the columns. -/
def o40 (W : Vec Ideal S8960x768 .i8) : Vec Ideal S8960x1536 .i32 :=
  shapeCast S8960x1536
    (concatenate S8960x768x2 2 [⟨S8960x768x1, o37 W⟩, ⟨S8960x768x1, o38 W⟩] concatenates_S8960x768x1_S8960x768x1_S8960x768x2_d2
      : IVec S8960x768x2 32) shapeCasts_S8960x768x2_S8960x1536
/-- Whether a bit of the nibble is set. -/
def oBit (n : Vec Ideal S8960x1536 .i32) (k : BitVec 32) : Vec Ideal S8960x1536 .i1 :=
  cmpi .ne (andi n (broadcastInDim S8960x1536 ![] bcast_S_S8960x1536 (constantI S_ 32 k)) : IVec S8960x1536 32)
    (broadcastInDim S8960x1536 ![] bcast_S_S8960x1536 (constantI S_ 32 0#32))
/-- One of two constants, by a bit. -/
def oSel (b : Vec Ideal S8960x1536 .i1) (p q : BitVec 16) : FVec Ideal S8960x1536 .bf16 :=
  select b (broadcastInDim S8960x1536 ![] bcast_S_S8960x1536 (constant S_ .bf16 p))
    (broadcastInDim S8960x1536 ![] bcast_S_S8960x1536 (constant S_ .bf16 q))
/-- The magnitude of the nibble. -/
def o64 (n : Vec Ideal S8960x1536 .i32) : FVec Ideal S8960x1536 .bf16 :=
  select (oBit n 4#32) (select (oBit n 2#32) (oSel (oBit n 1#32) 0x40C0#16 0x4080#16) (oSel (oBit n 1#32) 0x4040#16 0x4000#16))
    (select (oBit n 2#32) (oSel (oBit n 1#32) 0x3FC0#16 0x3F80#16) (oSel (oBit n 1#32) 0x3F00#16 0x0000#16))
/-- The decoded weights. -/
def o66 (n : Vec Ideal S8960x1536 .i32) : FVec Ideal S8960x1536 .bf16 := select (oBit n 8#32) (Host.negf (o64 n)) (o64 n)
/-- The scale at each weight. -/
def o68 (S : FVec Ideal S8960x96 .fp8e4m3) : FVec Ideal S8960x1536 .fp8e4m3 :=
  shapeCast S8960x1536 (broadcastInDim S8960x96x16 ![0, 1] bcast_S8960x96_S8960x96x16_0_1 S : FVec Ideal S8960x96x16 .fp8e4m3)
    shapeCasts_S8960x96x16_S8960x1536

end Cert.ReferenceIdeal.Gen
end
-- ==== Proof.Ref.EntA.lean ====
module

public import proofs.«01_k».proof.Proof.Ref.Ops
public import Idealize.ShloMosaic.Lib.Pointwise
public import Idealize.ShloMosaic.Lib.Tactic.CleanTypes

/-! The entries of the arrays that the host operations of the reference compute. -/

@[expose] public section

set_option maxRecDepth 16384

noncomputable section

namespace Cert.ReferenceIdeal.Gen

open Cert.ReferenceIdeal Idealize.ShloMosaic Idealize.ShloMosaic.TcCoe Idealize.ShloMosaic.Tactic

/-! ## Entries -/

theorem o1_at (A : FVec Ideal S3x384x1536 .bf16) (R : Fin 1152) (G : Fin 48) (i : Fin 32) :
    (o1 A (ix3 R G i) : EReal) = A (ix3 (⟨R.val / 384, by omega⟩ : Fin 3) (⟨R.val % 384, by omega⟩ : Fin 384) (⟨32 * G.val + i.val, by omega⟩ : Fin 1536)) := by
  unfold o1
  pointwise
  exact congrArg A (congrArg (fun q : Fin 1536 => ix3 (⟨R.val / 384, by omega⟩ : Fin 3) (⟨R.val % 384, by omega⟩ : Fin 384) q) (Fin.ext (by show G.val * 32 + i.val = 32 * G.val + i.val; omega)))

/-- A maximum over the last of three axes, at any sizes. -/
theorem red3 {n0 n1 n2 : Nat} {u : Shape} (v : (⟨3, ![n0, n1, n2]⟩ : Shape).Idx → EReal) (b : u.Idx → EReal)
    (h : (⟨3, ![n0, n1, n2]⟩ : Shape).ReducesTo [2] ⟨2, ![n0, n1]⟩) (hu : 0 < u.numel) (R : Fin n0) (G : Fin n1) :
    Host.reduce max v b h hu (ix2 R G) = (Finset.univ : Finset (Fin n2)).fold max (b (Shape.Idx.first hu)) fun k => v (ix3 R G k) := by
  rw [Host.reduce_eq_fold, Shape.ReducesTo.fold_fiber_r3_a2]
  rfl

theorem mulf_ideal {s : Shape} {φ : FTy} (a b : FVec Ideal s φ) (i : s.Idx) : (mulf a b i : EReal) = (a i : EReal) * b i := rfl

theorem fold_bot {n : Nat} (f : Fin n → EReal) (b : EReal) (hb : b = ⊥) : (Finset.univ : Finset (Fin n)).fold max b f = Finset.univ.sup f := by
  subst hb; rfl

theorem o5_at (v : FVec Ideal S1152x48x32 .f32) (R : Fin 1152) (G : Fin 48) :
    (o5 v (ix2 R G) : EReal) = (Finset.univ.sup fun i : Fin 32 => max (v (ix3 R G i) : EReal) (-(v (ix3 R G i) : EReal))) * Ideal.ofBits .f32 0x3B124925#32 := by
  unfold o5
  rw [mulf_ideal]
  have h := red3 (n0 := 1152) (n1 := 48) (n2 := 32) (Host.absf v : FVec Ideal S1152x48x32 .f32) (constant (F := Ideal) S_ .f32 0xFF800000#32 : FVec Ideal S_ .f32) reducesTo_S1152x48x32_S1152x48_d2 h_S_ R G
  rw [Ideal.maximumf_eq_max]
  refine congrArg₂ (fun a b : EReal => a * b) (h.trans ?_) rfl
  exact fold_bot _ _ (show Ideal.ofBits .f32 0xFF800000#32 = (⊥ : EReal) by simp [Ideal.ofBits, Ideal.ieee])

theorem o8_at (v : FVec Ideal S1152x48 .f32) (R : Fin 1152) (G : Fin 48) :
    (o8 v (ix2 R G) : EReal) = if (v (ix2 R G) : EReal) < Ideal.ofBits .f32 0x00800000#32 then 0 else v (ix2 R G) := by
  unfold o8
  pointwise

theorem o18_at (v : FVec Ideal S1152x48 .f32) (R : Fin 1152) (G : Fin 48) :
    (o18 v (ix2 R G) : EReal) = if (v (ix2 R G) : EReal) = 0 then 0 else
      Ideal.liftRound Int.floor (Ideal.div (Ideal.log (v (ix2 R G))) (Ideal.log (Ideal.ofBits .f32 0x40000000#32))) + 1 := by
  unfold o18 o10
  pointwise

theorem o20_at (e : FVec Ideal S1152x48 .f32) (R : Fin 1152) (G : Fin 48) :
    (o20 e (ix2 R G) : EReal) = Ideal.exp (e (ix2 R G) * Ideal.log (Ideal.ofBits .f32 0x40000000#32)) := by
  unfold o20 o10
  pointwise

theorem o23_at (e : FVec Ideal S1152x48 .f32) (R : Fin 1152) (G : Fin 48) :
    (o23 e (ix2 R G) : EReal) = Ideal.exp (-(e (ix2 R G) : EReal) * Ideal.log (Ideal.ofBits .f32 0x40000000#32)) := by
  unfold o23 o10
  pointwise

end Cert.ReferenceIdeal.Gen
end
-- ==== Proof.Ref.EntB.lean ====
module

public import proofs.«01_k».proof.Proof.Ref.Ops
public import Idealize.ShloMosaic.Lib.Pointwise
public import Idealize.ShloMosaic.Lib.Tactic.CleanTypes

/-! The entries of the arrays that the host operations of the reference compute. -/

@[expose] public section

set_option maxRecDepth 16384

noncomputable section

namespace Cert.ReferenceIdeal.Gen

open Cert.ReferenceIdeal Idealize.ShloMosaic Idealize.ShloMosaic.TcCoe Idealize.ShloMosaic.Tactic

theorem o28_at (v : FVec Ideal S1152x48x32 .f32) (e : FVec Ideal S1152x48 .f32) (R : Fin 1152) (C : Fin 1536) :
    (o28 v e (ix2 R C) : EReal) = min (Ideal.ofBits .f32 0x43E00000#32) (max (Ideal.ofBits .f32 0xC3E00000#32)
      ((v (ix3 R (⟨C.val / 32, by omega⟩ : Fin 48) (⟨C.val % 32, by omega⟩ : Fin 32)) : EReal) * o23 e (ix2 R (⟨C.val / 32, by omega⟩ : Fin 48)))) := by
  unfold o28
  pointwise

theorem o31_at (s : FVec Ideal S1152x48 .f32) (R : Fin 1152) (C : Fin 1536) :
    (o31 s (ix2 R C) : EReal) = s (ix2 R (⟨C.val / 32, by omega⟩ : Fin 48)) := by
  unfold o31
  pointwise

end Cert.ReferenceIdeal.Gen
end
-- ==== Proof.Ref.EntC.lean ====
module

public import proofs.«01_k».proof.Proof.Ref.Ops
public import Idealize.ShloMosaic.Lib.Pointwise
public import Idealize.ShloMosaic.Lib.Tactic.CleanTypes

/-! The entries of the arrays that the host operations of the reference compute. -/

@[expose] public section

set_option maxRecDepth 16384

noncomputable section

namespace Cert.ReferenceIdeal.Gen

open Cert.ReferenceIdeal Idealize.ShloMosaic Idealize.ShloMosaic.TcCoe Idealize.ShloMosaic.Tactic

theorem o37_at (W : Vec Ideal S8960x768 .i8) (N : Fin 8960) (C : Fin 768) :
    (o37 W (ix3 N C (0 : Fin 1)) : BitVec 32) = (W (ix2 N C) : BitVec 8).setWidth 32 &&& 15#32 := by
  unfold o37
  pointwise
  rfl

theorem o38_at (W : Vec Ideal S8960x768 .i8) (N : Fin 8960) (C : Fin 768) :
    (o38 W (ix3 N C (0 : Fin 1)) : BitVec 32) = ((W (ix2 N C) : BitVec 8).setWidth 32).sshiftRight 4 := by
  unfold o38
  pointwise
  rfl

theorem o40_at (W : Vec Ideal S8960x768 .i8) (N : Fin 8960) (C : Fin 1536) :
    (o40 W (ix2 N C) : BitVec 32) = if C.val % 2 = 0 then o37 W (ix3 N (⟨C.val / 2, by omega⟩ : Fin 768) (0 : Fin 1))
      else o38 W (ix3 N (⟨C.val / 2, by omega⟩ : Fin 768) (0 : Fin 1)) := by
  unfold o40
  pointwise
  by_cases h : C.val % 2 = 0
  · rw [dif_pos (by omega), if_pos h]
    exact congrArg (fun q : Fin 1 => o37 W (ix3 N (⟨C.val / 2, by omega⟩ : Fin 768) q)) (Fin.ext (by show C.val % 2 = 0; omega))
  · rw [dif_neg (by omega), if_neg h]
    exact congrArg (fun q : Fin 1 => o38 W (ix3 N (⟨C.val / 2, by omega⟩ : Fin 768) q)) (Fin.ext (by show C.val % 2 - 1 = 0; omega))

theorem o68_at (S : FVec Ideal S8960x96 .fp8e4m3) (N : Fin 8960) (C : Fin 1536) :
    (o68 S (ix2 N C) : EReal) = S (ix2 N (⟨C.val / 16, by omega⟩ : Fin 96)) := by
  unfold o68
  pointwise

end Cert.ReferenceIdeal.Gen
end
-- ==== Proof.Join.lean ====
module

public import proofs.«01_k».proof.Proof.Ideal.Expo
public import proofs.«01_k».proof.Proof.Ideal.Nibble
public import proofs.«01_k».proof.Proof.Ideal.Final
public import proofs.«01_k».proof.Proof.Ref.EntA
public import proofs.«01_k».proof.Proof.Ref.EntB
public import proofs.«01_k».proof.Proof.Ref.EntC

/-! The kernel's results are the reference's, as functions of the same arrays. -/

@[expose] public section

set_option maxRecDepth 16384

noncomputable section

namespace Cert.Join

open Cert.KernelIdeal Idealize.ShloMosaic Idealize.ShloMosaic.TcCoe Idealize.ShloMosaic.Tactic
open Cert.KernelIdeal.Gen (gmx grA scaleAt codeAt natCol xsSpec codesSpec scaleSpec wAll clS scS inS flR eR magR patN patLo patHi patLo_eq patHi_eq nib_mul scale_eq)
open Cert.ReferenceIdeal.Gen (o1 o5 o8 o18 o20 o23 o28 o31 o37 o38 o40 o66 o64 oBit oSel o68 o1_at o5_at o8_at o18_at o20_at o23_at o28_at o31_at o37_at o38_at o40_at o68_at)

/-! ## Numbers -/

/-- A pattern of the single format of sign zero and neither all ones nor subnormal. -/
theorem f32_eq (b : BitVec 32) (e f : ℕ) (hs : (b.extractLsb' 31 1 == 1#1) = false) (he : (b.extractLsb' 23 8).toNat = e)
    (hf : (b.extractLsb' 0 23).toNat = f) (h : e < 255) (h0 : e ≠ 0) : Ideal.ofBits .f32 b
      = ((((8388608 + f : ℕ) : ℝ) * (2 : ℝ) ^ ((e : Int) - 150) : ℝ) : EReal) := by
  show Ideal.ieee 8 23 b = _
  unfold Ideal.ieee
  dsimp only
  rw [show (8 : ℕ) + 23 = 31 from rfl, hs, he, hf, if_neg (by norm_num; omega), if_neg h0]
  congr 1
  rw [show ((e : ℤ) - (2 ^ (8 - 1) - 1) - ((23 : ℕ) : ℤ)) = (e : ℤ) - 150 from by norm_num; ring]
  norm_num

theorem big_eq : Ideal.ofBits .f32 0x7F7F0000#32 = (((16711680 : ℝ) * (2 : ℝ) ^ (104 : ℤ) : ℝ) : EReal) := by
  rw [f32_eq 0x7F7F0000#32 254 8323072 (by decide) (by decide) (by decide) (by decide) (by decide)]; norm_num

theorem inv_eq : Ideal.ofBits .f32 0x3B124925#32 = (((9586981 : ℝ) * (2 : ℝ) ^ (-32 : ℤ) : ℝ) : EReal) := by
  rw [f32_eq 0x3B124925#32 118 1198373 (by decide) (by decide) (by decide) (by decide) (by decide)]; norm_num

theorem abs_nonneg (a : EReal) : 0 ≤ max a (-a) := by
  rcases le_total 0 a with h | h
  · exact h.trans (le_max_left _ _)
  · exact (EReal.neg_nonneg.mpr h).trans (le_max_right _ _)

/-! ## Activations -/

section
variable {A : FVec Ideal S3x384x1536 .bf16} {x : Vec Ideal S1152x1536 .bf16}

/-- The matrix is the array read row by row. -/
def IsMat (A : FVec Ideal S3x384x1536 .bf16) (x : Vec Ideal S1152x1536 .bf16) : Prop :=
  ∀ (R : Fin 1152) (C : Fin 1536), (x (ix2 R C) : EReal) = A (ix3 (⟨R.val / 384, by omega⟩ : Fin 3) (⟨R.val % 384, by omega⟩ : Fin 384) C)

/-- No magnitude above the largest finite number. -/
def Bounded (A : FVec Ideal S3x384x1536 .bf16) : Prop := ∀ i, max (A i : EReal) (-(A i : EReal)) ≤ Ideal.ofBits .f32 0x7F7F0000#32

theorem gr_eq (hx : IsMat A x) (R : Fin 1152) (G : Fin 48) : (o5 (o1 A) (ix2 R G) : EReal) = grA x R G := by
  rw [o5_at]
  unfold grA gmx
  simp only [o1_at, hx R]

theorem gr_real (hx : IsMat A x) (hA : Bounded A) (R : Fin 1152) (G : Fin 48) :
    ∃ r : ℝ, grA x R G = (r : EReal) ∧ 0 ≤ r ∧ r < (2 : ℝ) ^ (120 : ℤ) := by
  have h0 : (0 : EReal) ≤ gmx x R G := by
    unfold gmx
    exact (abs_nonneg _).trans (Finset.le_sup (f := fun i : Fin 32 => max (x (ix2 R ⟨32 * G.val + i.val, by omega⟩) : EReal) (-(x (ix2 R ⟨32 * G.val + i.val, by omega⟩) : EReal))) (Finset.mem_univ (0 : Fin 32)))
  have h1 : gmx x R G ≤ (((16711680 : ℝ) * (2 : ℝ) ^ (104 : ℤ) : ℝ) : EReal) := by
    rw [← big_eq]
    unfold gmx
    refine Finset.sup_le fun i _ => ?_
    rw [hx]
    exact hA _
  unfold grA
  rw [inv_eq]
  generalize gmx x R G = q at h0 h1
  induction q with
  | bot => simp at h0
  | top => exact absurd h1 (by simp only [top_le_iff]; exact EReal.coe_ne_top _)
  | coe q =>
    have p0 : 0 ≤ q := by exact_mod_cast h0
    have p1 : q ≤ (16711680 : ℝ) * (2 : ℝ) ^ (104 : ℤ) := EReal.coe_le_coe_iff.mp h1
    refine ⟨q * ((9586981 : ℝ) * (2 : ℝ) ^ (-32 : ℤ)), (EReal.coe_mul _ _).symm, by positivity, ?_⟩
    refine lt_of_le_of_lt (mul_le_mul_of_nonneg_right p1 (by positivity)) ?_
    norm_num

/-- The reference's exponents. -/
def eA (A : FVec Ideal S3x384x1536 .bf16) : FVec Ideal S1152x48 .f32 := o18 (o8 (o5 (o1 A)))

theorem eA_at (hx : IsMat A x) (R : Fin 1152) (G : Fin 48) : (eA A (ix2 R G) : EReal) = eR (grA x R G) := by
  unfold eA
  rw [o18_at, o8_at, gr_eq hx]
  rfl

theorem o20_eq (hx : IsMat A x) (hA : Bounded A) (R : Fin 1152) (G : Fin 48) : (o20 (eA A) (ix2 R G) : EReal) = scaleAt x R G := by
  obtain ⟨r, e, h0, h1⟩ := gr_real hx hA R G
  rw [o20_at, eA_at hx]
  unfold scaleAt
  rw [e]
  exact (scale_eq r h0 h1).1

theorem o23_eq (hx : IsMat A x) (hA : Bounded A) (R : Fin 1152) (G : Fin 48) : (o23 (eA A) (ix2 R G) : EReal) = inS (grA x R G) := by
  obtain ⟨r, e, h0, h1⟩ := gr_real hx hA R G
  rw [o23_at, eA_at hx, e]
  exact (scale_eq r h0 h1).2

theorem o28_eq (hx : IsMat A x) (hA : Bounded A) (R : Fin 1152) (C : Fin 1536) : (o28 (o1 A) (eA A) (ix2 R C) : EReal) = codeAt x R C := by
  rw [o28_at, o23_eq hx hA, o1_at]
  unfold codeAt clS
  rw [hx]
  have e : (⟨32 * (C.val / 32) + C.val % 32, by omega⟩ : Fin 1536) = C := Fin.ext (Nat.div_add_mod _ _)
  dsimp only
  rw [e]

theorem o31_eq (hx : IsMat A x) (hA : Bounded A) (R : Fin 1152) (C : Fin 1536) :
    (o31 (o20 (eA A)) (ix2 R C) : EReal) = scaleAt x R ⟨C.val / 32, by omega⟩ := by
  rw [o31_at, o20_eq hx hA]

end

/-! ## Weights -/

theorem sel_at {s : Shape} {α : Type} (b : s.Idx → BitVec 1) (p q : s.Idx → α) (i : s.Idx) : select b p q i = Scalar.select (b i) (p i) (q i) := rfl

theorem oBit_at (n : Vec Ideal Cert.ReferenceIdeal.S8960x1536 .i32) (k : BitVec 32) (i : Cert.ReferenceIdeal.S8960x1536.Idx) :
    oBit n k i = IntOp.cmpi CmpIPredicate.ne (IntOp.andi (n i) k) 0#32 := rfl

theorem oSel_at (b : Vec Ideal Cert.ReferenceIdeal.S8960x1536 .i1) (p q : BitVec 16) (i : Cert.ReferenceIdeal.S8960x1536.Idx) :
    (oSel b p q i : EReal) = Scalar.select (b i) (Ideal.ofBits .bf16 p) (Ideal.ofBits .bf16 q) := rfl

theorem neg_at {s : Shape} {φ : FTy} (v : FVec Ideal s φ) (i : s.Idx) : (Host.negf v i : EReal) = -(v i : EReal) := rfl

theorem o66_at (n : Vec Ideal Cert.ReferenceIdeal.S8960x1536 .i32) (i : Cert.ReferenceIdeal.S8960x1536.Idx) : (o66 n i : EReal) = magR (n i) := by
  unfold o66 magR
  rw [sel_at, neg_at]
  unfold o64
  simp only [sel_at, oSel_at, oBit_at]

theorem lo_bits : ∀ b : BitVec 8, b.setWidth 32 &&& 15#32 = BitVec.ofNat 32 (b.toNat % 16) := by decide +kernel
theorem hi_bits : ∀ b : BitVec 8, (b.setWidth 32).sshiftRight 4 = BitVec.ofNat 32 (b.toNat / 16) := by decide +kernel

theorem hi_lt : ∀ b : BitVec 8, b.toNat / 16 < 16 := by decide +kernel

theorem low_col (k : ℕ) (h : k < 768) : (2 * (k % 768) + k / 768) % 2 = 0 := by
  rw [Nat.div_eq_of_lt h, Nat.add_zero, Nat.mul_mod_right]

theorem high_col (k : ℕ) (h : ¬ k < 768) (h' : k < 1536) : ¬ (2 * (k % 768) + k / 768) % 2 = 0 := by
  have e : k / 768 = 1 := Nat.div_eq_of_lt_le (by rw [Nat.one_mul]; exact Nat.le_of_not_lt h) h'
  rw [e, Nat.mul_add_mod]
  decide

theorem w_eq (W : Vec Ideal S8960x768 .i8) (S : FVec Ideal S8960x96 .fp8e4m3) (N : Fin 8960) (k : Fin 1536) :
    wAll W S N k = (o66 (o40 W) (ix2 N (natCol k)) : EReal) * o68 S (ix2 N (natCol k)) := by
  have d2 : (⟨(natCol k).val / 2, by omega⟩ : Fin 768) = ⟨k.val % 768, Nat.mod_lt _ (by decide)⟩ :=
    Fin.ext (by show (2 * (k.val % 768) + k.val / 768) / 2 = k.val % 768; omega)
  have d16 : (⟨(natCol k).val / 16, by omega⟩ : Fin 96) = ⟨k.val % 768 / 8, by omega⟩ :=
    Fin.ext (by show (2 * (k.val % 768) + k.val / 768) / 16 = k.val % 768 / 8; omega)
  rw [o66_at, o68_at, o40_at, d2, d16]
  unfold wAll
  by_cases hk : k.val < 768
  · rw [if_pos hk, if_pos (show (natCol k).val % 2 = 0 from low_col k.val hk), o37_at, lo_bits, patLo_eq]
    exact nib_mul _ (Nat.mod_lt _ (by decide)) _
  · rw [if_neg hk, if_neg (show ¬ (natCol k).val % 2 = 0 from high_col k.val hk k.isLt), o38_at, hi_bits, patHi_eq]
    exact nib_mul _ (hi_lt _) _

/-! ## The product -/

theorem two_digits (p q r t : ℕ) (hp : p < 2) (hq : q < 2) (h : 2 * r + p = 2 * t + q) : r = t ∧ p = q := by omega

theorem col_inj (a b : ℕ) (ha : a < 1536) (hb : b < 1536) (h : 2 * (a % 768) + a / 768 = 2 * (b % 768) + b / 768) : a = b := by
  obtain ⟨h1, h2⟩ := two_digits _ _ _ _ (Nat.div_lt_of_lt_mul (show a < 768 * 2 from ha)) (Nat.div_lt_of_lt_mul (show b < 768 * 2 from hb)) h
  rw [← Nat.div_add_mod a 768, ← Nat.div_add_mod b 768, h1, h2]

theorem natCol_val (a : Fin 1536) : (natCol a).val = 2 * (a.val % 768) + a.val / 768 := rfl

theorem natCol_inj : Function.Injective natCol := fun a b h =>
  Fin.ext (col_inj a.val b.val a.isLt b.isLt ((natCol_val a).symm.trans ((congrArg Fin.val h).trans (natCol_val b))))

theorem natCol_bij : Function.Bijective natCol := Finite.injective_iff_bijective.mp natCol_inj

theorem sum_eq {A : FVec Ideal S3x384x1536 .bf16} {x : Vec Ideal S1152x1536 .bf16} (hx : IsMat A x) (hA : Bounded A)
    (W : Vec Ideal S8960x768 .i8) (S : FVec Ideal S8960x96 .fp8e4m3) (R : Fin 1152) (N : Fin 8960) :
    (∑ k : Fin 1536, (xsSpec x (ix2 R k) : EReal) * wAll W S N k)
      = ∑ k : Fin 1536, ((o28 (o1 A) (eA A) (ix2 R k) : EReal) * o31 (o20 (eA A)) (ix2 R k)) * ((o66 (o40 W) (ix2 N k) : EReal) * o68 S (ix2 N k)) := by
  refine Eq.trans ?_ (natCol_bij.sum_comp fun k : Fin 1536 => ((o28 (o1 A) (eA A) (ix2 R k) : EReal) * o31 (o20 (eA A)) (ix2 R k)) * ((o66 (o40 W) (ix2 N k) : EReal) * o68 S (ix2 N k)))
  refine Finset.sum_congr rfl fun k _ => ?_
  rw [w_eq, o28_eq hx hA, o31_eq hx hA]
  rfl

end Cert.Join

end
-- ==== Proof.Ref.Out.lean ====
module

public import proofs.«01_k».proof.Proof.Ref.Ops
public import Idealize.ShloMosaic.Lib.Tactic
public import Idealize.ShloMosaic.Lib.MatmulPlain
public import Idealize.ShloMosaic.Lib.Pipeline.ValueKit.Tiles

/-! The reference's two region outputs as functions of the arrays its region starts from. -/

@[expose] public section

set_option maxRecDepth 16384

noncomputable section

namespace Cert.ReferenceIdeal.Gen

open Cert.ReferenceIdeal Idealize.ShloMosaic Idealize.ShloMosaic.TcCoe Idealize.ShloMosaic.Tactic
open Idealize.ShloMosaic.Pipeline (Dat)

variable (m : (ℓ : Loc nD τ sig) → Buf (Elt Ideal) ℓ)

theorem hz2 : (![0, 0] : Fin 2 → Nat) = fun _ => 0 := funext fun a => by fin_cases a <;> rfl

theorem iblk_0 (c : Dev nD) : (iblk m c 0 t0_0 : Vec Ideal S1 .f32) = V m c main_v41 := by
  have hz' : (fun a => win0_0.index t0_0 a * main_v41.ty.shape.size a) = fun _ => 0 := funext fun a => by fin_cases a; decide
  exact Memref.read_access_unit_zero (Elt Ideal) main_v41 hz' (fun a => by rw [congrFun hz' a]; simp) (V m c main_v41)
theorem iblk_1 (c : Dev nD) : (iblk m c 1 t0_0 : Vec Ideal S1152x1536 .f32) = V m c main_v28 := by
  have hz' : (fun a => win0_1.index t0_0 a * main_v28.ty.shape.size a) = fun _ => 0 := funext fun a => by fin_cases a <;> decide
  exact Memref.read_access_unit_zero (Elt Ideal) main_v28 hz' (fun a => by rw [congrFun hz' a]; simp) (V m c main_v28)
theorem iblk_2 (c : Dev nD) : (iblk m c 2 t0_0 : Vec Ideal S1152x1536 .bf16) = V m c main_v31 := by
  have hz' : (fun a => win0_2.index t0_0 a * main_v31.ty.shape.size a) = fun _ => 0 := funext fun a => by fin_cases a <;> decide
  exact Memref.read_access_unit_zero (Elt Ideal) main_v31 hz' (fun a => by rw [congrFun hz' a]; simp) (V m c main_v31)
theorem iblk_3 (c : Dev nD) : (iblk m c 3 t0_0 : Vec Ideal S8960x1536 .bf16) = V m c main_v66 := by
  have hz' : (fun a => win0_3.index t0_0 a * main_v66.ty.shape.size a) = fun _ => 0 := funext fun a => by fin_cases a <;> decide
  exact Memref.read_access_unit_zero (Elt Ideal) main_v66 hz' (fun a => by rw [congrFun hz' a]; simp) (V m c main_v66)
theorem iblk_4 (c : Dev nD) : (iblk m c 4 t0_0 : Vec Ideal S8960x1536 .fp8e4m3) = V m c main_v68 := by
  have hz' : (fun a => win0_4.index t0_0 a * main_v68.ty.shape.size a) = fun _ => 0 := funext fun a => by fin_cases a <;> decide
  exact Memref.read_access_unit_zero (Elt Ideal) main_v68 hz' (fun a => by rw [congrFun hz' a]; simp) (V m c main_v68)

section
variable (c : Dev nD) (a0 : Memref sig .tc .smem S1 .f32) (h0 : a0.IsWhole) (a1 : Memref sig .tc .vmem S1152x1536 .f32) (h1 : a1.IsWhole) (a2 : Memref sig .tc .vmem S1152x1536 .bf16) (h2 : a2.IsWhole) (a3 : Memref sig .tc .vmem S8960x1536 .bf16) (h3 : a3.IsWhole) (a4 : Memref sig .tc .vmem S8960x1536 .fp8e4m3) (h4 : a4.IsWhole) (a5 : Memref sig .tc .vmem S1152x8960 .bf16) (h5 : a5.IsWhole) (a6 : Memref sig .tc .vmem S1152x1536 .fp8e4m3) (h6 : a6.IsWhole)
    (x0 : Vec Ideal S1 .f32) (x1 : Vec Ideal S1152x1536 .f32) (x2 : Vec Ideal S1152x1536 .bf16) (x3 : Vec Ideal S8960x1536 .bf16) (x4 : Vec Ideal S8960x1536 .fp8e4m3)

theorem out5_eq : out0_A_5 c a0 h0 a1 h1 a2 h2 a3 h3 a4 h4 a5 h5 a6 h6 x0 x1 x2 x3 x4 = k0_pay2 x1 x2 x3 x4 (x0 (ix1 0)) := by
  unfold out0_A_5
  rw [View.read_writes_eq_canon _ _ _ (cover0_A_5 c a0 h0 a1 h1 a2 h2 a3 h3 a4 h4 a5 h5 a6 h6 x0 x1 x2 x3 x4)]
  unfold kernelRun0_A
  dsimp only
  sl_unfold_words
  rw [View.canon_unit_zero (S := S1152x8960) hz2]
  simp only [View.readAt_eq_ld, h0.read_unread, h1.read_unread, h2.read_unread, h3.read_unread, h4.read_unread, View.ld_unit_zero (S := S1152x1536) hz2, View.ld_unit_zero (S := S8960x1536) hz2]
  refine congrArg (k0_pay2 x1 x2 x3 x4) (View.ld_unit_apply_of _ _ _ _ _ _ fun a => ?_)
  match a with
  | ⟨0, _⟩ => rfl

theorem out6_eq : out0_A_6 c a0 h0 a1 h1 a2 h2 a3 h3 a4 h4 a5 h5 a6 h6 x0 x1 x2 x3 x4 = k0_pay1 x1 := by
  unfold out0_A_6
  rw [View.read_writes_eq_canon _ _ _ (cover0_A_6 c a0 h0 a1 h1 a2 h2 a3 h3 a4 h4 a5 h5 a6 h6 x0 x1 x2 x3 x4)]
  unfold kernelRun0_A
  dsimp only
  sl_unfold_words
  rw [View.canon_unit_zero (S := S1152x1536) hz2]
  simp only [View.readAt_eq_ld, h1.read_unread, View.ld_unit_zero (S := S1152x1536) hz2]
end

/-- The product, as the reference's region leaves it. -/
def yR (c : Dev nD) : FVec Ideal S1152x8960 .bf16 :=
  k0_pay2 (V m c main_v28) (V m c main_v31) (V m c main_v66) (V m c main_v68) ((V m c main_v41 : Vec Ideal S1 .f32) (ix1 0))
/-- The codes, as the reference's region leaves them. -/
def qR (c : Dev nD) : FVec Ideal S1152x1536 .fp8e4m3 := k0_pay1 (V m c main_v28)

theorem flushed_5 (c : Dev nD) (t : Fin cfg0.N) (hf : (cfg0.win 5).flush t = true) :
    (dats m 0 c).flushed 5 t = ((cfg0.win 5).blk t).view.read (Elt Ideal) (yR m c : Buf (Elt Ideal) ((c : Thread nD τ).loc main_v69_0)) := by
  obtain rfl : t = t0_0 := fin_N0 t
  rw [Value.flushed5_A, out5_eq, iblk_0, iblk_1, iblk_2, iblk_3, iblk_4]
  have hz' : (fun a => win0_5.index t0_0 a * main_v69_0.ty.shape.size a) = fun _ => 0 := funext fun a => by fin_cases a <;> decide
  exact (Memref.read_access_unit_zero (Elt Ideal) main_v69_0 hz' (fun a => by rw [congrFun hz' a]; simp) (yR m c)).symm

theorem flushed_6 (c : Dev nD) (t : Fin cfg0.N) (hf : (cfg0.win 6).flush t = true) :
    (dats m 0 c).flushed 6 t = ((cfg0.win 6).blk t).view.read (Elt Ideal) (qR m c : Buf (Elt Ideal) ((c : Thread nD τ).loc main_v69_1)) := by
  obtain rfl : t = t0_0 := fin_N0 t
  rw [Value.flushed6_A, out6_eq, iblk_1]
  have hz' : (fun a => win0_6.index t0_0 a * main_v69_1.ty.shape.size a) = fun _ => 0 := funext fun a => by fin_cases a <;> decide
  exact (Memref.read_access_unit_zero (Elt Ideal) main_v69_1 hz' (fun a => by rw [congrFun hz' a]; simp) (qR m c)).symm

theorem final_5 (c : Dev nD) : (dats m 0 c).arrAt 5 cfg0.N = (yR m c : Buf (Elt Ideal) ((c : Thread nD τ).loc main_v69_0)) :=
  (dats m 0 c).arrAt_eq_of_cover 5 _ (flushed_5 m c) fun i =>
    ⟨t0_0, flush0_5 t0_0, by
      show i ∈ ((View.whole main_v69_0).slice (win0_5.rect t0_0)).set
      rw [View.set_slice_whole, Rect.mem_set_unit]
      intro a
      have h0 : (i 0 : Nat) < 1152 := (i 0).isLt
      have h1 : (i 1 : Nat) < 8960 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 1152 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 8960 from by decide +kernel]; omega⟩

theorem final_6 (c : Dev nD) : (dats m 0 c).arrAt 6 cfg0.N = (qR m c : Buf (Elt Ideal) ((c : Thread nD τ).loc main_v69_1)) :=
  (dats m 0 c).arrAt_eq_of_cover 6 _ (flushed_6 m c) fun i =>
    ⟨t0_0, flush0_6 t0_0, by
      show i ∈ ((View.whole main_v69_1).slice (win0_6.rect t0_0)).set
      rw [View.set_slice_whole, Rect.mem_set_unit]
      intro a
      have h0 : (i 0 : Nat) < 1152 := (i 0).isLt
      have h1 : (i 1 : Nat) < 1536 := (i 1).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 1152 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 1536 from by decide +kernel]; omega⟩

theorem qR_at (c : Dev nD) (R : Fin 1152) (C : Fin 1536) : (qR m c (ix2 R C) : EReal) = (V m c main_v28 : FVec Ideal S1152x1536 .f32) (ix2 R C) := by
  unfold qR k0_pay1
  generalize (V m c main_v28 : FVec Ideal S1152x1536 .f32) = v
  rw [shapeCast_self]
  rfl

theorem pay2_at (q : FVec Ideal S1152x1536 .f32) (s : FVec Ideal S1152x1536 .bf16) (w : FVec Ideal S8960x1536 .bf16) (u : FVec Ideal S8960x1536 .fp8e4m3) (g : Elt Ideal .f32)
    (R : Fin 1152) (N : Fin 8960) :
    (k0_pay2 q s w u g (ix2 R N) : EReal)
      = (∑ k : Fin 1536, ((q (ix2 R k) : EReal) * s (ix2 R k)) * ((w (ix2 N k) : EReal) * u (ix2 N k))) * (g : EReal) := by
  unfold k0_pay2 k0_pay1
  dsimp only
  simp only [shapeCast_self]
  have h := Ideal.matmul_transposedRhs_apply (φ₁ := .bf16) (φ₂ := .bf16) (M := 1152) (K := 1536) (N := 8960) none
    (mulf (extf .bf16 (truncf .fp8e4m3 q bitsLt_fp8e4m3_f32 : FVec Ideal S1152x1536 .fp8e4m3) bitsLt_fp8e4m3_bf16) s : FVec Ideal S1152x1536 .bf16)
    (mulf w (extf .bf16 u bitsLt_fp8e4m3_bf16) : FVec Ideal S8960x1536 .bf16) (constant (F := Ideal) S1152x8960 .f32 0#32) R N
  have h0 : (constant (F := Ideal) S1152x8960 .f32 0#32 (ix2 R N) : EReal) = 0 := by
    show Ideal.ofBits .f32 0#32 = 0
    exact Ideal.ofBits_zero_f32
  exact congrArg (· * (g : EReal)) (h.trans ((congrArg₂ (· + ·) h0 rfl).trans (zero_add _)))

end Cert.ReferenceIdeal.Gen
end
-- ==== Proof.Ref.Host.lean ====
module

public import proofs.«01_k».proof.Proof.Ref.Ops
public import Idealize.ShloMosaic.Lib.StableHlo.RunRead

/-! The arrays of the reference when its region starts, as the host operations leave them. -/

@[expose] public section

set_option maxRecDepth 16384

noncomputable section

namespace Cert.ReferenceIdeal.Gen

open Cert.ReferenceIdeal Idealize.ShloMosaic Idealize.ShloMosaic.TcCoe Idealize.ShloMosaic.Tactic

variable (m : (ℓ : Loc nD τ sig) → Buf (Elt Ideal) ℓ)

/-- The exponents of the activations' groups. -/
def eA (A : FVec Ideal S3x384x1536 .bf16) : FVec Ideal S1152x48 .f32 := o18 (o8 (o5 (o1 A)))

theorem V20 (c : Dev nD) : (V m c main_v20 : FVec Ideal S1152x48 .f32) = o20 (eA (m ((c : Thread nD τ).loc main_arg0))) := by
  after_reads_simp
  simp -implicitDefEqProofs only [StableHlo.TRef.toBuf, StableHlo.TRef.ofBuf, cast_cast, cast_eq]
  rfl

theorem V28 (c : Dev nD) : (V m c main_v28 : FVec Ideal S1152x1536 .f32) = o28 (o1 (m ((c : Thread nD τ).loc main_arg0))) (eA (m ((c : Thread nD τ).loc main_arg0))) := by
  after_reads_simp
  simp -implicitDefEqProofs only [StableHlo.TRef.toBuf, StableHlo.TRef.ofBuf, cast_cast, cast_eq]
  rfl

theorem V31 (c : Dev nD) : (V m c main_v31 : FVec Ideal S1152x1536 .bf16) = o31 (o20 (eA (m ((c : Thread nD τ).loc main_arg0)))) := by
  after_reads_simp
  simp -implicitDefEqProofs only [StableHlo.TRef.toBuf, StableHlo.TRef.ofBuf, cast_cast, cast_eq]
  rfl

theorem V41 (c : Dev nD) : (V m c main_v41 : FVec Ideal S1 .f32) = shapeCast S1 (m ((c : Thread nD τ).loc main_arg3) : FVec Ideal S_ .f32) shapeCasts_S_S1 := by
  after_reads_simp
  rfl

theorem V68 (c : Dev nD) : (V m c main_v68 : FVec Ideal S8960x1536 .fp8e4m3) = o68 (m ((c : Thread nD τ).loc main_arg2)) := by
  after_reads_simp
  rfl

end Cert.ReferenceIdeal.Gen
end
-- ==== Proof.Ref.HostW.lean ====
module

public import proofs.«01_k».proof.Proof.Ref.Ops
public import Idealize.ShloMosaic.Lib.StableHlo.RunRead

/-! The decoded weights of the reference when its region starts, as the host operations leave them. -/

@[expose] public section

set_option maxRecDepth 16384

noncomputable section

namespace Cert.ReferenceIdeal.Gen

open Cert.ReferenceIdeal Idealize.ShloMosaic Idealize.ShloMosaic.TcCoe Idealize.ShloMosaic.Tactic

variable (m : (ℓ : Loc nD τ sig) → Buf (Elt Ideal) ℓ)

theorem V40 (c : Dev nD) : (V m c main_v40 : IVec S8960x1536 32) = o40 (m ((c : Thread nD τ).loc main_arg1)) := by
  after_reads_simp
  unfold o40
  funext i
  refine congrArg (fun z => shapeCast S8960x1536 z shapeCasts_S8960x768x2_S8960x1536 i) ?_
  refine congrArg₂ (fun (a b : IVec S8960x768x1 32) => (concatenate S8960x768x2 2 [⟨S8960x768x1, a⟩, ⟨S8960x768x1, b⟩] concatenates_S8960x768x1_S8960x768x1_S8960x768x2_d2 : IVec S8960x768x2 32)) ?_ ?_
  · after_reads_simp
    rfl
  · after_reads_simp
    rfl

theorem V66 (c : Dev nD) : (V m c main_v66 : FVec Ideal S8960x1536 .bf16) = o66 (o40 (m ((c : Thread nD τ).loc main_arg1))) := by
  have e := V40 m c
  revert e
  after_reads_simp
  simp -implicitDefEqProofs only [StableHlo.TRef.toBuf, StableHlo.TRef.ofBuf, cast_cast, cast_eq]
  generalize o40 (m ((c : Thread nD τ).loc main_arg1)) = n
  intro e
  subst e
  rfl

end Cert.ReferenceIdeal.Gen
end
-- ==== Proof.Meet.lean ====
module

public import proofs.«01_k».proof.Defs
public import proofs.«01_k».proof.Proof.Join
public import proofs.«01_k».proof.Proof.Ref.Out
public import proofs.«01_k».proof.Proof.Ref.Host
public import proofs.«01_k».proof.Proof.Ref.HostW

/-! The kernel's three result arrays and the reference's, of runs started from the same arguments. -/

@[expose] public section

set_option maxRecDepth 16384

noncomputable section

namespace Cert.Join

open Idealize.ShloMosaic Idealize.ShloMosaic.TcCoe Idealize.ShloMosaic.Tactic

/-- The two spellings of the exponents. -/
theorem eA_same (A : FVec Ideal Cert.KernelIdeal.S3x384x1536 .bf16) : Cert.ReferenceIdeal.Gen.eA A = eA A := rfl

/-- The precondition, entry by entry. -/
theorem bounded_of [hp : Cert.Pre_finite.Facts] (A : FVec Ideal Cert.KernelIdeal.S3x384x1536 .bf16) (W : IVec Cert.KernelIdeal.S8960x768 8)
    (S : FVec Ideal Cert.KernelIdeal.S8960x96 .fp8e4m3) (g : FVec Ideal Cert.KernelIdeal.S_ .f32)
    (h : Cert.Pre_finite.fn (F := Ideal) A W S g = fun _ => 1#1) : Bounded A := by
  intro i
  have e : Ideal.cmp .ole (max (A i : EReal) (-(A i : EReal))) (Ideal.ofBits .f32 0x7F7F0000#32) = 1#1 := congrFun h i
  unfold Ideal.cmp at e
  dsimp only at e
  by_contra hn
  rw [decide_eq_false hn] at e
  exact absurd e (by decide)

/-- A number kept as an array of one entry. -/
theorem one_at (g : FVec Ideal Cert.ReferenceIdeal.S_ .f32) (h : Cert.ReferenceIdeal.S_.ShapeCasts Cert.ReferenceIdeal.S1) :
    (shapeCast Cert.ReferenceIdeal.S1 g h (ix1 0) : EReal) = g (fun a => a.elim0) := by
  show g _ = g _
  exact congrArg g (funext fun a => a.elim0)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's argument arrays. -/
abbrev a0 : FVec Ideal Cert.KernelIdeal.S3x384x1536 .bf16 := m ((c.tc : Thread Cert.KernelIdeal.nD Cert.KernelIdeal.τ).loc Cert.KernelIdeal.main_arg0)
abbrev a1 : Vec Ideal Cert.KernelIdeal.S8960x768 .i8 := m ((c.tc : Thread Cert.KernelIdeal.nD Cert.KernelIdeal.τ).loc Cert.KernelIdeal.main_arg1)
abbrev a2 : FVec Ideal Cert.KernelIdeal.S8960x96 .fp8e4m3 := m ((c.tc : Thread Cert.KernelIdeal.nD Cert.KernelIdeal.τ).loc Cert.KernelIdeal.main_arg2)
abbrev a3 : FVec Ideal Cert.KernelIdeal.S_ .f32 := m ((c.tc : Thread Cert.KernelIdeal.nD Cert.KernelIdeal.τ).loc Cert.KernelIdeal.main_arg3)
/-- The reference's argument arrays. -/
abbrev r0 : FVec Ideal Cert.KernelIdeal.S3x384x1536 .bf16 := m' ((c.tc : Thread Cert.ReferenceIdeal.nD Cert.ReferenceIdeal.τ).loc Cert.ReferenceIdeal.main_arg0)
abbrev r1 : Vec Ideal Cert.KernelIdeal.S8960x768 .i8 := m' ((c.tc : Thread Cert.ReferenceIdeal.nD Cert.ReferenceIdeal.τ).loc Cert.ReferenceIdeal.main_arg1)
abbrev r2 : FVec Ideal Cert.KernelIdeal.S8960x96 .fp8e4m3 := m' ((c.tc : Thread Cert.ReferenceIdeal.nD Cert.ReferenceIdeal.τ).loc Cert.ReferenceIdeal.main_arg2)
abbrev r3 : FVec Ideal Cert.KernelIdeal.S_ .f32 := m' ((c.tc : Thread Cert.ReferenceIdeal.nD Cert.ReferenceIdeal.τ).loc Cert.ReferenceIdeal.main_arg3)

theorem isMat : IsMat (a0 m c) (Cert.KernelIdeal.Gen.X1 m c) := fun R C => Cert.KernelIdeal.Gen.X1_at m c R C

theorem codes_eq (hA : Bounded (a0 m c)) (h0 : r0 m' c = a0 m c) :
    Cert.ReferenceIdeal.Gen.qR m' c = Cert.KernelIdeal.Gen.codesSpec (Cert.KernelIdeal.Gen.X1 m c) := by
  funext y
  have hy : y = ix2 (y 0) (y 1) := eq_ix2 y
  rw [hy]
  refine (Cert.ReferenceIdeal.Gen.qR_at m' c (y 0) (y 1)).trans ?_
  rw [Cert.ReferenceIdeal.Gen.V28]
  change (Cert.ReferenceIdeal.Gen.o28 (Cert.ReferenceIdeal.Gen.o1 (r0 m' c)) (eA (r0 m' c)) (ix2 (y 0) (y 1)) : EReal) = _
  rw [h0]
  exact o28_eq (isMat m c) hA (y 0) (y 1)

theorem scales_eq (hA : Bounded (a0 m c)) (h0 : r0 m' c = a0 m c) :
    (Cert.ReferenceIdeal.Gen.V m' c Cert.ReferenceIdeal.main_v20 : FVec Ideal Cert.ReferenceIdeal.S1152x48 .f32) = Cert.KernelIdeal.Gen.scaleSpec (Cert.KernelIdeal.Gen.X1 m c) := by
  rw [Cert.ReferenceIdeal.Gen.V20]
  change Cert.ReferenceIdeal.Gen.o20 (eA (r0 m' c)) = _
  rw [h0]
  funext y
  have hy : y = ix2 (y 0) (y 1) := eq_ix2 y
  rw [hy]
  exact o20_eq (isMat m c) hA (y 0) (y 1)

theorem product_eq (hA : Bounded (a0 m c)) (h0 : r0 m' c = a0 m c) (h1 : r1 m' c = a1 m c) (h2 : r2 m' c = a2 m c) (h3 : r3 m' c = a3 m c) :
    Cert.ReferenceIdeal.Gen.yR m' c = Cert.KernelIdeal.Gen.yK m c := by
  funext y
  have hy : y = ix2 (y 0) (y 1) := eq_ix2 y
  rw [hy]
  unfold Cert.ReferenceIdeal.Gen.yR
  refine (Cert.ReferenceIdeal.Gen.pay2_at _ _ _ _ _ (y 0) (y 1)).trans ?_
  rw [Cert.ReferenceIdeal.Gen.V28, Cert.ReferenceIdeal.Gen.V31, Cert.ReferenceIdeal.Gen.V66, Cert.ReferenceIdeal.Gen.V68, Cert.ReferenceIdeal.Gen.V41]
  refine Eq.trans (b := (∑ k : Fin 1536, ((Cert.ReferenceIdeal.Gen.o28 (Cert.ReferenceIdeal.Gen.o1 (r0 m' c)) (eA (r0 m' c)) (ix2 (y 0) k) : EReal)
      * Cert.ReferenceIdeal.Gen.o31 (Cert.ReferenceIdeal.Gen.o20 (eA (r0 m' c))) (ix2 (y 0) k))
      * ((Cert.ReferenceIdeal.Gen.o66 (Cert.ReferenceIdeal.Gen.o40 (r1 m' c)) (ix2 (y 1) k) : EReal) * Cert.ReferenceIdeal.Gen.o68 (r2 m' c) (ix2 (y 1) k)))
      * (r3 m' c (fun a => a.elim0) : EReal)) (congrArg (fun z : EReal => _ * z) (one_at (r3 m' c) _)) ?_
  rw [h0, h1, h2, h3]
  exact congrArg (fun z : EReal => z * (a3 m c (fun a => a.elim0) : EReal)) (sum_eq (isMat m c) hA (a1 m c) (a2 m c) (y 0) (y 1)).symm

end

end Cert.Join

end
-- ==== Proof.lean ====
module

public import proofs.«01_k».proof.Defs
public import proofs.«01_k».proof.Proof.KernelFrame
public import proofs.«01_k».proof.Proof.Meet

@[expose] public section

open Idealize.ShloMosaic Idealize.ShloMosaic.TcCoe

/-- The side conditions of the precondition's operations. -/
theorem Cert.Proof.preFacts : Cert.Pre_finite.Facts where
  bitsLt_bf16_f32 := by decide
  bcast_S_S3x384x1536 := by decide

/-- The runs end with the same three arrays. -/
theorem Cert.Proof.values : Cert.algebraic_KernelIdeal_ReferenceIdeal_pre_finite (hKernelIdeal := Cert.KernelIdeal.Gen.facts)
    (hReferenceIdeal := Cert.ReferenceIdeal.Gen.facts) (hPre_finite := Cert.Proof.preFacts) := by
  intro m g m' g' hpre hargs
  have hA : ∀ c, Cert.Join.Bounded (Cert.Join.a0 m c) := fun c => Cert.Join.bounded_of (hp := Cert.Proof.preFacts) _ _ _ _ (hpre c)
  refine ⟨fun c => Cert.KernelIdeal.Gen.yK m c, fun c => Cert.KernelIdeal.Gen.codesSpec (Cert.KernelIdeal.Gen.X1 m c),
    fun c => Cert.KernelIdeal.Gen.scaleSpec (Cert.KernelIdeal.Gen.X1 m c), ?_, ?_⟩
  · refine (θ_run _ _ _).mono ?_ (θ_run_and (Cert.KernelIdeal.Gen.run_main m g) (Cert.KernelIdeal.Gen.unchanged m g))
    intro r h c
    exact ⟨((h.1 c).1 4).trans (Cert.KernelIdeal.Gen.final_4 m c), ((h.1 c).1 5).trans (Cert.KernelIdeal.Gen.final_5 m c),
      ((h.1 c).1 6).trans (Cert.KernelIdeal.Gen.final_6 m c), h.2 c⟩
  · refine (θ_run _ _ _).mono ?_ (θ_run_and (Cert.ReferenceIdeal.Gen.run_main m' g') (Cert.ReferenceIdeal.Value.run_blocks m' g'))
    intro r h c
    obtain ⟨e0, e1, e2, e3⟩ := hargs c
    obtain ⟨y0, y1, k⟩ := h.2 c
    exact ⟨(y0.trans (Cert.ReferenceIdeal.Gen.final_5 m' c)).trans (Cert.Join.product_eq m m' c (hA c) e0 e1 e2 e3),
      (y1.trans (Cert.ReferenceIdeal.Gen.final_6 m' c)).trans (Cert.Join.codes_eq m m' c (hA c) e0),
      ((h.1 c).2 Cert.ReferenceIdeal.main_v20 (Pipeline.mem_restRefs_of Cert.ReferenceIdeal.main_v20 (by decide) (by decide))).trans
        (Cert.Join.scales_eq m m' c (hA c) e0), k⟩

/-- The claim: the frames, one after another, and the values. -/
theorem Cert.Proof.claim : Cert.Claim :=
  ⟨Cert.Kernel.Gen.facts, Cert.KernelIdeal.Gen.facts, Cert.ReferenceIdeal.Gen.facts, Cert.Proof.preFacts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial, Cert.Proof.values⟩
